-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.sign_bit.MaskStatement Cert.KernelIdeal.S256x128 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v18_1) = v1 c
          ∧ r.2.mem ((c.tc : Thread Cert.ReferenceIdeal.nD Cert.ReferenceIdeal.τ).loc Cert.ReferenceIdeal.main_v18_2) = v2 c
          ∧ r.2.mem ((c.tc : Thread Cert.ReferenceIdeal.nD Cert.ReferenceIdeal.τ).loc Cert.ReferenceIdeal.main_v18_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1280x1024 : Shape := ⟨3, ![12, 1280, 1024]⟩
abbrev S12x1280x2816 : Shape := ⟨3, ![12, 1280, 2816]⟩
abbrev S2816x1024 : Shape := ⟨2, ![2816, 1024]⟩
abbrev S2816x8 : Shape := ⟨2, ![2816, 8]⟩
abbrev S15360x1024 : Shape := ⟨2, ![15360, 1024]⟩
abbrev S15360x2816 : Shape := ⟨2, ![15360, 2816]⟩
abbrev S15360x256 : Shape := ⟨2, ![15360, 256]⟩
abbrev S256x1024 : Shape := ⟨2, ![256, 1024]⟩
abbrev S256x8 : Shape := ⟨2, ![256, 8]⟩
abbrev S256x128 : Shape := ⟨2, ![256, 128]⟩
abbrev S256x1 : Shape := ⟨2, ![256, 1]⟩
abbrev S256 : Shape := ⟨1, ![256]⟩

abbrev nBuf : Space → Nat
  | .hbm => 14
  | .vmem => 24
  | .smem => 0
  | _ => 0

abbrev bufTy : (tb : Table) → Fin (tcTables nBuf tb) → BufTy
  | .hbm, ⟨0, _⟩ => ⟨S12x1280x1024, .bf16⟩
  | .hbm, ⟨1, _⟩ => ⟨S12x1280x2816, .bf16⟩
  | .hbm, ⟨2, _⟩ => ⟨S2816x1024, .fp8e4m3⟩
  | .hbm, ⟨3, _⟩ => ⟨S2816x8, .f32⟩
  | .hbm, ⟨4, _⟩ => ⟨S2816x1024, .fp8e4m3⟩
  | .hbm, ⟨5, _⟩ => ⟨S2816x8, .f32⟩
  | .hbm, ⟨6, _⟩ => ⟨S2816x1024, .i32⟩
  | .hbm, ⟨7, _⟩ => ⟨S2816x1024, .i32⟩
  | .hbm, ⟨8, _⟩ => ⟨S15360x1024, .bf16⟩
  | .hbm, ⟨9, _⟩ => ⟨S15360x2816, .bf16⟩
  | .hbm, ⟨10, _⟩ => ⟨S2816x1024, .fp8e4m3⟩
  | .hbm, ⟨11, _⟩ => ⟨S2816x8, .f32⟩
  | .hbm, ⟨12, _⟩ => ⟨S2816x1024, .fp8e4m3⟩
  | .hbm, ⟨13, _⟩ => ⟨S2816x8, .f32⟩
  | .local _ .vmem, ⟨0, _⟩ => ⟨S15360x1024, .bf16⟩
  | .local _ .vmem, ⟨1, _⟩ => ⟨S15360x256, .bf16⟩
  | .local _ .vmem, ⟨2, _⟩ => ⟨S15360x256, .bf16⟩
  | .local _ .vmem, ⟨3, _⟩ => ⟨S256x1024, .fp8e4m3⟩
  | .local _ .vmem, ⟨4, _⟩ => ⟨S256x1024, .fp8e4m3⟩
  | .local _ .vmem, ⟨5, _⟩ => ⟨S256x8, .f32⟩
  | .local _ .vmem, ⟨6, _⟩ => ⟨S256x8, .f32⟩
  | .local _ .vmem, ⟨7, _⟩ => ⟨S256x1024, .fp8e4m3⟩
  | .local _ .vmem, ⟨8, _⟩ => ⟨S256x1024, .fp8e4m3⟩
  | .local _ .vmem, ⟨9, _⟩ => ⟨S256x8, .f32⟩
  | .local _ .vmem, ⟨10, _⟩ => ⟨S256x8, .f32⟩
  | .local _ .vmem, ⟨11, _⟩ => ⟨S256x1024, .i32⟩
  | .local _ .vmem, ⟨12, _⟩ => ⟨S256x1024, .i32⟩
  | .local _ .vmem, ⟨13, _⟩ => ⟨S256x1024, .i32⟩
  | .local _ .vmem, ⟨14, _⟩ => ⟨S256x1024, .i32⟩
  | .local _ .vmem, ⟨15, _⟩ => ⟨S256x1024, .fp8e4m3⟩
  | .local _ .vmem, ⟨16, _⟩ => ⟨S256x1024, .fp8e4m3⟩
  | .local _ .vmem, ⟨17, _⟩ => ⟨S256x8, .f32⟩
  | .local _ .vmem, ⟨18, _⟩ => ⟨S256x8, .f32⟩
  | .local _ .vmem, ⟨19, _⟩ => ⟨S256x1024, .fp8e4m3⟩
  | .local _ .vmem, ⟨20, _⟩ => ⟨S256x1024, .fp8e4m3⟩
  | .local _ .vmem, ⟨21, _⟩ => ⟨S256x8, .f32⟩
  | .local _ .vmem, ⟨22, _⟩ => ⟨S256x8, .f32⟩
  | .local _ .vmem, ⟨23, _⟩ => ⟨S256x1024, .f32⟩
  | _, _ => ⟨S12x1280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [BitOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S15360x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S15360x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F]
-- ==== ReferenceIdeal.lean ====
abbrev S12x1280x1024 : Shape := ⟨3, ![12, 1280, 1024]⟩
abbrev S12x1280x2816 : Shape := ⟨3, ![12, 1280, 2816]⟩
abbrev S2816x1024 : Shape := ⟨2, ![2816, 1024]⟩
abbrev S2816x8 : Shape := ⟨2, ![2816, 8]⟩
abbrev S_ : Shape := ⟨0, ![]⟩
abbrev S2816x8x128 : Shape := ⟨3, ![2816, 8, 128]⟩
abbrev S2816x8x1 : Shape := ⟨3, ![2816, 8, 1]⟩

abbrev nBuf : Space → Nat
  | .hbm => 35
  | .vmem => 11
  | .smem => 0
  | _ => 0

abbrev bufTy : (tb : Table) → Fin (tcTables nBuf tb) → BufTy
  | .hbm, ⟨0, _⟩ => ⟨S12x1280x1024, .bf16⟩
  | .hbm, ⟨1, _⟩ => ⟨S12x1280x2816, .bf16⟩
  | .hbm, ⟨2, _⟩ => ⟨S2816x1024, .fp8e4m3⟩
  | .hbm, ⟨3, _⟩ => ⟨S2816x8, .f32⟩
  | .hbm, ⟨4, _⟩ => ⟨S2816x1024, .fp8e4m3⟩
  | .hbm, ⟨5, _⟩ => ⟨S2816x8, .f32⟩
  | .hbm, ⟨6, _⟩ => ⟨S2816x1024, .i32⟩
  | .hbm, ⟨7, _⟩ => ⟨S2816x1024, .i32⟩
  | .hbm, ⟨8, _⟩ => ⟨S2816x1024, .f32⟩
  | .hbm, ⟨9, _⟩ => ⟨S_, .f32⟩
  | .hbm, ⟨10, _⟩ => ⟨S2816x1024, .f32⟩
  | .hbm, ⟨11, _⟩ => ⟨S2816x1024, .f32⟩
  | .hbm, ⟨12, _⟩ => ⟨S2816x8x128, .f32⟩
  | .hbm, ⟨13, _⟩ => ⟨S2816x8x128, .fp8e4m3⟩
  | .hbm, ⟨14, _⟩ => ⟨S2816x8x128, .fp8e4m3⟩
  | .hbm, ⟨15, _⟩ => ⟨S_, .i32⟩
  | .hbm, ⟨16, _⟩ => ⟨S2816x1024, .i32⟩
  | .hbm, ⟨17, _⟩ => ⟨S2816x1024, .i32⟩
  | .hbm, ⟨18, _⟩ => ⟨S2816x1024, .f32⟩
  | .hbm, ⟨19, _⟩ => ⟨S2816x8x128, .f32⟩
  | .hbm, ⟨20, _⟩ => ⟨S_, .f32⟩
  | .hbm, ⟨21, _⟩ => ⟨S2816x8x128, .f32⟩
  | .hbm, ⟨22, _⟩ => ⟨S2816x8x128, .f32⟩
  | .hbm, ⟨23, _⟩ => ⟨S_, .i32⟩
  | .hbm, ⟨24, _⟩ => ⟨S2816x1024, .i32⟩
  | .hbm, ⟨25, _⟩ => ⟨S2816x1024, .i32⟩
  | .hbm, ⟨26, _⟩ => ⟨S2816x1024, .f32⟩
  | .hbm, ⟨27, _⟩ => ⟨S2816x8x128, .f32⟩
  | .hbm, ⟨28, _⟩ => ⟨S_, .f32⟩
  | .hbm, ⟨29, _⟩ => ⟨S2816x8x128, .f32⟩
  | .hbm, ⟨30, _⟩ => ⟨S2816x8x128, .f32⟩
  | .hbm, ⟨31, _⟩ => ⟨S2816x1024, .fp8e4m3⟩
  | .hbm, ⟨32, _⟩ => ⟨S2816x8, .f32⟩
  | .hbm, ⟨33, _⟩ => ⟨S2816x1024, .fp8e4m3⟩
  | .hbm, ⟨34, _⟩ => ⟨S2816x8, .f32⟩
  | .local _ .vmem, ⟨0, _⟩ => ⟨S2816x8x128, .f32⟩
  | .local _ .vmem, ⟨1, _⟩ => ⟨S2816x8x128, .fp8e4m3⟩
  | .local _ .vmem, ⟨2, _⟩ => ⟨S2816x8, .f32⟩
  | .local _ .vmem, ⟨3, _⟩ => ⟨S2816x8x128, .fp8e4m3⟩
  | .local _ .vmem, ⟨4, _⟩ => ⟨S2816x8, .f32⟩
  | .local _ .vmem, ⟨5, _⟩ => ⟨S2816x8x128, .f32⟩
  | .local _ .vmem, ⟨6, _⟩ => ⟨S2816x8x128, .f32⟩
  | .local _ .vmem, ⟨7, _⟩ => ⟨S2816x1024, .fp8e4m3⟩
  | .local _ .vmem, ⟨8, _⟩ => ⟨S2816x8, .f32⟩
  | .local _ .vmem, ⟨9, _⟩ => ⟨S2816x1024, .fp8e4m3⟩
  | .local _ .vmem, ⟨10, _⟩ => ⟨S2816x8, .f32⟩
  | _, _ => ⟨S12x1280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2816x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2816x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2816x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2816x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2816x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2816x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2816x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2816x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2816x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelBody.lean ====
/- The kernel's body as functions of vectors: what one column block of 128 computes, and the pieces its stores leave in the
   four outputs' buffers. -/
module

public import proofs.«01_k».proof.Proof.Gen.KernelIdeal.Value

@[expose] public section

noncomputable section

namespace Cert.Proof.Ker

open Cert.KernelIdeal Cert.KernelIdeal.Gen Idealize.ShloMosaic Idealize.ShloMosaic.TcCoe Idealize.SL.Sem
open Idealize.ShloMosaic.Tactic

variable {F : FTy → Type} [FloatOps F]

/-- One step of the search for the exponent field of `x`: keep `f` with the bit `k` set if the float of that word is at most `x`. -/
def fieldStep {s : Shape} (x : FVec F s .f32) (k : BitVec 32) (f : IVec s 32) : IVec s 32 :=
  select (cmpf .olt x (bitcastToFloat .f32 (ori f (broadcast s k)))) f (ori f (broadcast s k))

/-- The word of `x`'s exponent field, in place. -/
def expField {s : Shape} (x : FVec F s .f32) : IVec s 32 :=
  fieldStep x 8388608#32 (fieldStep x 16777216#32 (fieldStep x 33554432#32 (fieldStep x 67108864#32
    (fieldStep x 134217728#32 (fieldStep x 268435456#32 (fieldStep x 536870912#32 (fieldStep x 1073741824#32
      (broadcast s 0#32))))))))

/-- The new momentum block. -/
def mNew (g : Vec F S256x128 .f32) (mc : Vec F S256x128 .fp8e4m3) (ms : Vec F S256x1 .f32) : FVec F S256x128 .f32 :=
  addf (mulf (broadcast S256x128 (Scalar.ofBits .f32 0x3F666666#32))
      (mulf (extf .f32 mc bitsLt_fp8e4m3_f32) (broadcastTo S256x128 ms broadcasts_S256x1_S256x128)))
    (mulf g (broadcast S256x128 (Scalar.ofBits .f32 0x38888889#32)))

/-- The new weight block. -/
def wNew (g : Vec F S256x128 .f32) (wc : Vec F S256x128 .fp8e4m3) (ws : Vec F S256x1 .f32) (mc : Vec F S256x128 .fp8e4m3)
    (ms : Vec F S256x1 .f32) : FVec F S256x128 .f32 :=
  subf (mulf (extf .f32 wc bitsLt_fp8e4m3_f32) (broadcastTo S256x128 ws broadcasts_S256x1_S256x128))
    (mulf (broadcast S256x128 (Scalar.ofBits .f32 0x3D4CCCCD#32)) (mNew g mc ms))

/-- Each row's largest magnitude over 448. -/
def rowTop (val : FVec F S256x128 .f32) : FVec F S256x1 .f32 :=
  mulf (shapeCast S256x1 (multiReduction .maximumf [1] S256 (absf val) 0xFF800000#32 reduces_S256x128_S256 (.inl rfl) rfl)
      shapeCasts_S256_S256x1)
    (broadcast S256x1 (Scalar.ofBits .f32 0x3B124925#32))

/-- The scale of each row's block. -/
def scaleOf (val : FVec F S256x128 .f32) : FVec F S256x1 .f32 :=
  bitcastToFloat .f32 (select (cmpi .eq (expField (rowTop val)) (broadcast S256x1 0#32)) (broadcast S256x1 1065353216#32)
    (addi (expField (rowTop val)) (broadcast S256x1 8388608#32)))

/-- Its inverse. -/
def invOf (val : FVec F S256x128 .f32) : FVec F S256x1 .f32 :=
  bitcastToFloat .f32 (select (cmpi .eq (expField (rowTop val)) (broadcast S256x1 0#32)) (broadcast S256x1 1065353216#32)
    (subi (broadcast S256x1 2122317824#32) (expField (rowTop val))))

/-- The scaled and clipped block. -/
def clipOf (val : FVec F S256x128 .f32) : FVec F S256x128 .f32 :=
  minimumf (broadcast S256x128 (Scalar.ofBits .f32 0x43E00000#32))
    (maximumf (broadcast S256x128 (Scalar.ofBits .f32 0xC3E00000#32))
      (mulf val (broadcastTo S256x128 (invOf val) broadcasts_S256x1_S256x128)))

/-- The exponent field of the magnitude, at least that of the smallest normal code. -/
def codeField (v : FVec F S256x128 .f32) : IVec S256x128 32 :=
  maxsi (expField (absf v)) (broadcast S256x128 1015021568#32)

/-- The magnitude's multiple of the code spacing, rounded up or down by the random word. -/
def codeCount (v : FVec F S256x128 .f32) (bits : IVec S256x128 32) : IVec S256x128 32 :=
  shrui (addi (fptosi 32 (ceil (mulf (absf v) (bitcastToFloat .f32 (subi (broadcast S256x128 2357198848#32) (codeField v))))))
      (subi (broadcast S256x128 16777215#32) (shrui bits (broadcast S256x128 8#32))))
    (broadcast S256x128 24#32)

/-- The rounded magnitude. -/
def codeMag (v : FVec F S256x128 .f32) (bits : IVec S256x128 32) : FVec F S256x128 .f32 :=
  mulf (sitofp .f32 (codeCount v bits)) (bitcastToFloat .f32 (subi (codeField v) (broadcast S256x128 25165824#32)))

/-- The codes of a scaled and clipped block. -/
def codesOfClip (v : FVec F S256x128 .f32) (bits : IVec S256x128 32) : FVec F S256x128 .fp8e4m3 :=
  truncf .fp8e4m3 (select (cmpf .olt v (constant S256x128 .f32 0x00000000#32))
    (subf (broadcast S256x128 (Scalar.ofBits .f32 0x00000000#32)) (codeMag v bits)) (codeMag v bits)) bitsLt_fp8e4m3_f32

/-- The codes of a block. -/
def codesOf (val : FVec F S256x128 .f32) (bits : IVec S256x128 32) : FVec F S256x128 .fp8e4m3 :=
  codesOfClip (clipOf val) bits

/-! The column blocks of a grid point's buffers. -/

section
variable (acc : Vec F S256x1024 .f32) (x2 : Vec F S256x1024 .fp8e4m3) (x3 : Vec F S256x8 .f32) (x4 : Vec F S256x1024 .fp8e4m3)
  (x5 : Vec F S256x8 .f32) (o b : ℕ) (ho : ∀ a, (![0, o] : Fin 2 → ℕ) a + S256x128.size a ≤ S256x1024.size a)
  (hb : ∀ a, (![0, b] : Fin 2 → ℕ) a + S256x1.size a ≤ S256x8.size a)

/-- The new momentum of the column block at `o`, whose scale is column `b`. -/
abbrev mBlk : FVec F S256x128 .f32 :=
  mNew (View.ld acc (Rect.unit (s := S256x1024) ![0, o] S256x128.size ho)) (View.ld x4 (Rect.unit (s := S256x1024) ![0, o] S256x128.size ho))
    (View.ld x5 (Rect.unit (s := S256x8) ![0, b] S256x1.size hb))

/-- The new weight of that column block. -/
abbrev wBlk : FVec F S256x128 .f32 :=
  wNew (View.ld acc (Rect.unit (s := S256x1024) ![0, o] S256x128.size ho)) (View.ld x2 (Rect.unit (s := S256x1024) ![0, o] S256x128.size ho))
    (View.ld x3 (Rect.unit (s := S256x8) ![0, b] S256x1.size hb)) (View.ld x4 (Rect.unit (s := S256x1024) ![0, o] S256x128.size ho))
    (View.ld x5 (Rect.unit (s := S256x8) ![0, b] S256x1.size hb))

/-- The piece of weight codes stored for it. -/
abbrev wPiece (x6 : Vec F S256x1024 .i32) : View.Piece (Elt F) S256x1024 .fp8e4m3 :=
  ⟨Rect.unit (s := S256x1024) ![0, o] S256x128.size ho, codesOf (wBlk acc x2 x3 x4 x5 o b ho hb)
    (View.ld x6 (Rect.unit (s := S256x1024) ![0, o] S256x128.size ho))⟩

/-- The piece of momentum codes stored for it. -/
abbrev mPiece (x7 : Vec F S256x1024 .i32) : View.Piece (Elt F) S256x1024 .fp8e4m3 :=
  ⟨Rect.unit (s := S256x1024) ![0, o] S256x128.size ho, codesOf (mBlk acc x4 x5 o b ho hb)
    (View.ld x7 (Rect.unit (s := S256x1024) ![0, o] S256x128.size ho))⟩
end

/-- The product over the tokens that a grid point keeps in its scratch buffer. -/
def acc (x0 : Vec F S15360x1024 .bf16) (x1 : Vec F S15360x256 .bf16) : FVec F S256x1024 .f32 :=
  matmul dot_S15360x256_S15360x1024_S256x1024_0_0_1_1_n_n none x1 x0 (constant S256x1024 .f32 0x00000000#32)

end Cert.Proof.Ker

end
-- ==== Proof.Scalar.lean ====
/- The quantiser at one number, over the extended reals: what the kernel finds with integer operations on the words of floats is
   what the reference writes with logarithms and powers of two. -/
module

public import Idealize.ShloMosaic.PureOps.Ideal
public import Idealize.ShloMosaic.PureOps.Ideal.Laws
public import Idealize.ShloMosaic.Lib.IdealHost

@[expose] public section

noncomputable section

namespace Cert.Proof.Sc

open Idealize.ShloMosaic

/-! ### The numbers whose words have a field and no fraction -/

/-- The word with exponent field `n`, no fraction and no sign. -/
abbrev word (n : ℕ) : BitVec 32 := BitVec.ofNat 32 (n * 8388608)

/-- The number of that word. -/
def val (n : ℕ) : EReal := Ideal.ofBits .f32 (word n)

theorem word_fields : ∀ n : Fin 256, (word n.val).extractLsb' 31 1 = 0#1 ∧ ((word n.val).extractLsb' 23 8).toNat = n.val
    ∧ ((word n.val).extractLsb' 0 23).toNat = 0 := by decide +kernel

theorem word_or : ∀ (j : Fin 8) (n : Fin 256), n.val % (2 * 2 ^ j.val) = 0 → word n.val ||| word (2 ^ j.val) = word (n.val + 2 ^ j.val) := by
  decide +kernel

theorem val_zero : val 0 = 0 := by
  show Ideal.ofBits .f32 0x00000000#32 = 0
  exact Ideal.ofBits_zero_f32

theorem val_mid (n : ℕ) (h0 : 1 ≤ n) (h1 : n ≤ 254) : val n = (((2 : ℝ) ^ ((n : ℤ) - 127) : ℝ) : EReal) := by
  obtain ⟨hs, he, hf⟩ := word_fields ⟨n, by omega⟩
  simp only at hs he hf
  have hz : ((2 : ℝ) ^ 23) * (2 : ℝ) ^ ((n : ℤ) - 127 - 23) = (2 : ℝ) ^ ((n : ℤ) - 127) := by
    rw [← zpow_natCast, ← zpow_add₀ (by norm_num)]
    congr 1
    push_cast; ring
  have h2 : ¬ n = 255 := by omega
  have h3 : ¬ n = 0 := by omega
  simp only [val, Ideal.ofBits, Ideal.ieee, hs, he, hf]
  norm_num [h2, h3, -EReal.coe_mul]
  convert hz using 2
  norm_num

theorem val_top : val 255 = ⊤ := by
  obtain ⟨hs, he, hf⟩ := word_fields ⟨255, by omega⟩
  simp only at hs he hf
  simp only [val, Ideal.ofBits, Ideal.ieee, hs, he, hf]
  norm_num

/-! ### The search for the exponent field -/

/-- One step of the search. -/
def step (x : EReal) (k f : BitVec 32) : BitVec 32 := if x < Ideal.ofBits .f32 (f ||| k) then f else f ||| k

/-- The search. -/
def field (x : EReal) : BitVec 32 :=
  step x 8388608#32 (step x 16777216#32 (step x 33554432#32 (step x 67108864#32
    (step x 134217728#32 (step x 268435456#32 (step x 536870912#32 (step x 1073741824#32 0#32)))))))

/-- What is known when `2 ^ j` fields are left: `n` is the first of them. -/
structure Left (x : EReal) (j n : ℕ) : Prop where
  dvd : n % 2 ^ j = 0
  le : n + 2 ^ j ≤ 256
  lower : n = 0 ∨ val n ≤ x
  upper : n + 2 ^ j = 256 ∨ x < val (n + 2 ^ j)

theorem step_left (x : EReal) (j n : ℕ) (hj : j < 8) (h : Left x (j + 1) n) :
    ∃ n', step x (word (2 ^ j)) (word n) = word n' ∧ Left x j n' := by
  obtain ⟨hd, hl, hlo, hup⟩ := h
  have h2 : 2 ^ (j + 1) = 2 * 2 ^ j := by ring
  rw [h2] at hd hl hup
  have hp : 0 < 2 ^ j := by positivity
  have hor := word_or ⟨j, hj⟩ ⟨n, by omega⟩ hd
  simp only at hor
  have hd' : n % 2 ^ j = 0 := Nat.mod_eq_zero_of_dvd ((Dvd.intro_left 2 rfl).trans (Nat.dvd_of_mod_eq_zero hd))
  rw [step, hor]
  by_cases hx : x < Ideal.ofBits .f32 (word (n + 2 ^ j))
  · rw [if_pos hx]
    exact ⟨n, rfl, hd', by omega, hlo, .inr hx⟩
  · rw [if_neg hx]
    refine ⟨n + 2 ^ j, rfl, by simp [hd'], by omega, .inr (not_lt.1 hx), ?_⟩
    rcases hup with h | h
    · left; omega
    · right
      have : n + 2 ^ j + 2 ^ j = n + 2 * 2 ^ j := by ring
      rw [this]; exact h

/-- The field found is that of the largest power of two that is at most `x`. -/
theorem field_spec (x : EReal) : ∃ n, n < 256 ∧ field x = word n ∧ (n = 0 ∨ val n ≤ x) ∧ (n = 255 ∨ x < val (n + 1)) := by
  have h8 : Left x 8 0 := ⟨by norm_num, by norm_num, .inl rfl, .inl (by norm_num)⟩
  obtain ⟨n7, e7, h7⟩ := step_left x 7 0 (by norm_num) h8
  obtain ⟨n6, e6, h6⟩ := step_left x 6 n7 (by norm_num) h7
  obtain ⟨n5, e5, h5⟩ := step_left x 5 n6 (by norm_num) h6
  obtain ⟨n4, e4, h4⟩ := step_left x 4 n5 (by norm_num) h5
  obtain ⟨n3, e3, h3⟩ := step_left x 3 n4 (by norm_num) h4
  obtain ⟨n2, e2, h2⟩ := step_left x 2 n3 (by norm_num) h3
  obtain ⟨n1, e1, h1⟩ := step_left x 1 n2 (by norm_num) h2
  obtain ⟨n0, e0, h0⟩ := step_left x 0 n1 (by norm_num) h1
  have hl := h0.le
  have hu := h0.upper
  norm_num at hl hu
  refine ⟨n0, by omega, ?_, h0.lower, ?_⟩
  · have w : 0#32 = word 0 ∧ 8388608#32 = word (2 ^ 0) ∧ 16777216#32 = word (2 ^ 1) ∧ 33554432#32 = word (2 ^ 2)
        ∧ 67108864#32 = word (2 ^ 3) ∧ 134217728#32 = word (2 ^ 4) ∧ 268435456#32 = word (2 ^ 5)
        ∧ 536870912#32 = word (2 ^ 6) ∧ 1073741824#32 = word (2 ^ 7) := by decide
    obtain ⟨w, w0, w1, w2, w3, w4, w5, w6, w7⟩ := w
    rw [field, w, w0, w1, w2, w3, w4, w5, w6, w7]
    rw [e7, e6, e5, e4, e3, e2, e1, e0]
  · rcases hu with h | h
    · left; omega
    · exact .inr h

/-! ### Logarithms and powers of two -/

/-- The reference's logarithm to base two. -/
def log2 (x : EReal) : EReal := Ideal.div (Ideal.log x) ((Real.log 2 : ℝ) : EReal)

theorem log_two_ne : Real.log 2 ≠ 0 := (Real.log_pos (by norm_num)).ne'

theorem floor_log2 (r : ℝ) (a : ℤ) (h0 : (2 : ℝ) ^ a ≤ r) (h1 : r < (2 : ℝ) ^ (a + 1)) :
    Ideal.liftRound Int.floor (log2 (r : EReal)) = ((a : ℝ) : EReal) := by
  have hr : 0 < r := lt_of_lt_of_le (by positivity) h0
  have hl : 0 < Real.log 2 := Real.log_pos (by norm_num)
  have e : log2 (r : EReal) = ((Real.log r / Real.log 2 : ℝ) : EReal) := by
    rw [log2, Ideal.div_coe log_two_ne, Ideal.log_coe, if_neg (not_le.2 hr), ← EReal.coe_mul]
    congr 1; ring
  rw [e, Ideal.liftRound_coe]
  congr 2
  rw [Int.floor_eq_iff, le_div_iff₀ hl, div_lt_iff₀ hl]
  constructor
  · rw [← Real.log_zpow]; exact Real.log_le_log (by positivity) h0
  · have : ((a : ℝ) + 1) = ((a + 1 : ℤ) : ℝ) := by push_cast; ring
    rw [this, ← Real.log_zpow]; exact Real.log_lt_log hr h1

theorem log2_zero : log2 0 = ⊥ := by
  rw [log2, Ideal.div_coe log_two_ne]
  have : Ideal.log 0 = ⊥ := by
    have := Ideal.log_coe (r := 0)
    simpa using this
  rw [this, EReal.bot_mul_coe_of_pos]
  have := Real.log_pos (x := 2) (by norm_num)
  positivity

theorem exp2_int (a : ℤ) : Ideal.exp2 ((a : ℝ) : EReal) = (((2 : ℝ) ^ a : ℝ) : EReal) := by
  rw [Ideal.exp2_coe]
  congr 1
  exact Real.rpow_intCast 2 a

/-! ### The scale -/

/-- The kernel's scale for a block whose largest magnitude over 448 is `x`. -/
def kScale (x : EReal) : EReal := Ideal.ofBits .f32 (if field x = 0#32 then 1065353216#32 else field x + 8388608#32)

/-- The kernel's inverse of it. -/
def kInv (x : EReal) : EReal := Ideal.ofBits .f32 (if field x = 0#32 then 1065353216#32 else 2122317824#32 - field x)

/-- The reference's exponent. -/
def rExp (x : EReal) : EReal :=
  if x < (((2 : ℝ) ^ (-126 : ℤ) : ℝ) : EReal) then 0 else Ideal.liftRound Int.floor (log2 x) + 1

/-- The reference's scale. -/
def rScale (x : EReal) : EReal :=
  if x < (((2 : ℝ) ^ (127 : ℤ) : ℝ) : EReal) then Ideal.exp2 (rExp x) else if x < ⊤ then ⊤ else 0

/-- The reference's inverse. -/
def rInv (x : EReal) : EReal :=
  if x < (((2 : ℝ) ^ (127 : ℤ) : ℝ) : EReal) then
    if x < (((2 : ℝ) ^ (126 : ℤ) : ℝ) : EReal) then Ideal.exp2 (0 - rExp x) else 0
  else if x < ⊤ then ⊥ else ((-(2 : ℝ) ^ (127 : ℤ) : ℝ) : EReal)

theorem word_eq_zero : ∀ n : Fin 256, word n.val = 0#32 ↔ n.val = 0 := by decide +kernel
theorem word_succ : ∀ n : Fin 256, word n.val + 8388608#32 = word (n.val + 1) := by decide +kernel
theorem word_253 : ∀ n : Fin 254, 2122317824#32 - word n.val = word (253 - n.val) := by decide +kernel

theorem zpow_le_of {a b : ℤ} (h : a ≤ b) : (2 : ℝ) ^ a ≤ (2 : ℝ) ^ b := zpow_le_zpow_right₀ (by norm_num) h

/-- Between two powers of two, an extended real is a real. -/
theorem real_of_between (x : EReal) (a b : ℝ) (h0 : (a : EReal) ≤ x) (h1 : x < (b : EReal)) : ∃ r : ℝ, x = r ∧ a ≤ r ∧ r < b := by
  induction x with
  | bot => simp at h0
  | top => simp at h1
  | coe r => exact ⟨r, rfl, EReal.coe_le_coe_iff.1 h0, EReal.coe_lt_coe_iff.1 h1⟩

/-- The exponent of a number whose field is `n`, from 1 to 253. -/
theorem rExp_mid (r : ℝ) (n : ℕ) (h1 : 1 ≤ n) (h0 : (2 : ℝ) ^ ((n : ℤ) - 127) ≤ r) (hr : r < (2 : ℝ) ^ ((n : ℤ) - 126)) :
    rExp (r : EReal) = ((((n : ℤ) - 126 : ℤ) : ℝ) : EReal) := by
  have hn : ¬ (r : EReal) < (((2 : ℝ) ^ (-126 : ℤ) : ℝ) : EReal) := by
    rw [EReal.coe_lt_coe_iff, not_lt]
    exact (zpow_le_of (by omega)).trans h0
  rw [rExp, if_neg hn, floor_log2 r ((n : ℤ) - 127) h0 (by convert hr using 2; ring), ← EReal.coe_one, ← EReal.coe_add]
  congr 1
  push_cast; ring

theorem scale_and_inv (x : EReal) : kScale x = rScale x ∧ kInv x = rInv x := by
  obtain ⟨n, hn, hf, hlo, hup⟩ := field_spec x
  have hz := word_eq_zero ⟨n, hn⟩
  simp only at hz
  rcases Nat.eq_zero_or_pos n with h0 | h0
  · subst h0
    have hx : x < (((2 : ℝ) ^ (-126 : ℤ) : ℝ) : EReal) := by
      rcases hup with h | h
      · omega
      · rw [val_mid 1 (by norm_num) (by norm_num)] at h
        convert h using 3
        norm_num
    have h127 : x < (((2 : ℝ) ^ (127 : ℤ) : ℝ) : EReal) := hx.trans_le (EReal.coe_le_coe_iff.2 (zpow_le_of (by norm_num)))
    have h126 : x < (((2 : ℝ) ^ (126 : ℤ) : ℝ) : EReal) := hx.trans_le (EReal.coe_le_coe_iff.2 (zpow_le_of (by norm_num)))
    have e0 : Ideal.exp2 0 = 1 := by
      have := exp2_int 0
      simpa using this
    rw [kScale, kInv, rScale, rInv, rExp, hf, if_pos (hz.2 rfl), if_pos (hz.2 rfl), if_pos h127, if_pos h127, if_pos h126, if_pos hx]
    have h1 : Ideal.ofBits .f32 1065353216#32 = 1 := Ideal.ofBits_one_f32
    rw [h1, sub_zero, e0]
    exact ⟨rfl, rfl⟩
  · have hne : ¬ word n = 0#32 := fun h => by have := hz.1 h; omega
    have hlo' : val n ≤ x := by rcases hlo with h | h <;> [omega; exact h]
    have hs := word_succ ⟨n, hn⟩
    simp only at hs
    rw [kScale, kInv, rScale, rInv, hf, if_neg hne, if_neg hne, hs]
    rcases Nat.lt_or_ge n 254 with h253 | h254
    · have hup' : x < val (n + 1) := by rcases hup with h | h <;> [omega; exact h]
      rw [val_mid n h0 (by omega)] at hlo'
      rw [val_mid (n + 1) (by omega) (by omega)] at hup'
      obtain ⟨r, rfl, hr0, hr1⟩ := real_of_between x _ _ hlo' hup'
      have hr1' : r < (2 : ℝ) ^ ((n : ℤ) - 126) := by convert hr1 using 2; push_cast; ring
      have h127 : (r : EReal) < (((2 : ℝ) ^ (127 : ℤ) : ℝ) : EReal) :=
        EReal.coe_lt_coe_iff.2 (hr1'.trans_le (zpow_le_of (by omega)))
      have hw := word_253 ⟨n, h253⟩
      simp only at hw
      rw [if_pos h127, if_pos h127, hw, rExp_mid r n h0 hr0 hr1', exp2_int]
      refine ⟨?_, ?_⟩
      · show val (n + 1) = _
        rw [val_mid (n + 1) (by omega) (by omega)]
        congr 2
        push_cast; ring
      · show val (253 - n) = _
        rcases Nat.lt_or_ge n 253 with h | h
        · have h126 : (r : EReal) < (((2 : ℝ) ^ (126 : ℤ) : ℝ) : EReal) :=
            EReal.coe_lt_coe_iff.2 (hr1'.trans_le (zpow_le_of (by omega)))
          rw [if_pos h126, val_mid (253 - n) (by omega) (by omega), ← EReal.coe_zero, ← EReal.coe_sub,
            show (0 : ℝ) - (((n : ℤ) - 126 : ℤ) : ℝ) = ((126 - (n : ℤ) : ℤ) : ℝ) by push_cast; ring, exp2_int]
          congr 2
          omega
        · have h126 : ¬ (r : EReal) < (((2 : ℝ) ^ (126 : ℤ) : ℝ) : EReal) := by
            rw [EReal.coe_lt_coe_iff, not_lt]
            exact (zpow_le_of (by omega)).trans hr0
          have : n = 253 := by omega
          subst this
          rw [if_neg h126]
          exact val_zero
    · have hge : (((2 : ℝ) ^ (127 : ℤ) : ℝ) : EReal) ≤ x := by
        rcases Nat.lt_or_ge n 255 with h | h
        · have : n = 254 := by omega
          subst this
          rw [val_mid 254 (by norm_num) (by norm_num)] at hlo'
          convert hlo' using 3
          norm_num
        · have : n = 255 := by omega
          subst this
          rw [val_top] at hlo'
          exact le_top.trans hlo'
      rw [if_neg (not_lt.2 hge), if_neg (not_lt.2 hge)]
      rcases Nat.lt_or_ge n 255 with h | h
      · have : n = 254 := by omega
        subst this
        have hx : x < ⊤ := by
          rcases hup with h | h
          · omega
          · rwa [show 254 + 1 = 255 from rfl, val_top] at h
        rw [if_pos hx, if_pos hx]
        refine ⟨val_top, ?_⟩
        show Ideal.ofBits .f32 0xFF800000#32 = ⊥
        simp [Ideal.ofBits, Ideal.ieee]
      · have : n = 255 := by omega
        subst this
        rw [val_top] at hlo'
        rw [if_neg (not_lt.2 hlo'), if_neg (not_lt.2 hlo')]
        constructor
        · show Ideal.ofBits .f32 0x80000000#32 = 0
          simp [Ideal.ofBits, Ideal.ieee]
        · show Ideal.ofBits .f32 0xFF000000#32 = _
          simp [Ideal.ofBits, Ideal.ieee, -EReal.coe_mul, -EReal.coe_neg]
          norm_num

end Cert.Proof.Sc

end
-- ==== Proof.Code.lean ====
/- The stochastic rounding of one scaled and clipped number, over the extended reals: the kernel's integer form is the reference's. -/
module

public import proofs.«01_k».proof.Proof.Scalar

@[expose] public section

noncomputable section

namespace Cert.Proof.Sc

open Idealize.ShloMosaic

/-- The kernel's exponent field of the code spacing, before the shift down by three. -/
def kField (v : EReal) : BitVec 32 := IntOp.maxsi (field (max v (-v))) 1015021568#32

/-- The kernel's multiple of the spacing. -/
def kCount (v : EReal) (b : BitVec 32) : BitVec 32 :=
  IntOp.shrui .vector
    (Ideal.fptosi 32 (Ideal.liftRound Int.ceil (max v (-v) * Ideal.ofBits .f32 (2357198848#32 - kField v)))
      + (16777215#32 - IntOp.shrui .vector b 8#32)) 24#32

/-- The kernel's rounded magnitude. -/
def kMag (v : EReal) (b : BitVec 32) : EReal :=
  (((kCount v b).toInt : ℝ) : EReal) * Ideal.ofBits .f32 (kField v - 25165824#32)

/-- The kernel's code. -/
def kCode (v : EReal) (b : BitVec 32) : EReal := if v < 0 then 0 - kMag v b else kMag v b

/-- The reference's exponent of the spacing. -/
def rSpacing (v : EReal) : EReal :=
  max (Ideal.liftRound Int.floor (log2 (max v (-v))) + 1) (((-5 : ℝ)) : EReal) - ((4 : ℝ) : EReal)

/-- The reference's multiple of the spacing, not rounded. -/
def rQuot (v : EReal) : EReal := max v (-v) * Ideal.exp2 (0 - rSpacing v)

/-- The reference's rounded magnitude, for the uniform number `u`. -/
def rMag (v u : EReal) : EReal :=
  (Ideal.liftRound Int.floor (rQuot v) + (if u < rQuot v - Ideal.liftRound Int.floor (rQuot v) then 1 else 0))
    * Ideal.exp2 (rSpacing v)

/-- The reference's code. -/
def rCode (v u : EReal) : EReal :=
  min ((448 : ℝ) : EReal) (max ((-448 : ℝ) : EReal) ((if 0 < max v (-v) then (if v < 0 then -1 else 1) else v) * rMag v u))

/-- The reference's uniform number for a random word. -/
def uniform (b : BitVec 32) : EReal := (((IntOp.shrui .vector b 8#32).toNat : ℝ) : EReal) * (((2 : ℝ) ^ (-24 : ℤ) : ℝ) : EReal)

theorem word_max : ∀ n : Fin 136, IntOp.maxsi (word n.val) 1015021568#32 = word (max n.val 121) := by decide +kernel
theorem word_281 : ∀ n : Fin 136, 121 ≤ n.val → 2357198848#32 - word n.val = word (281 - n.val) := by decide +kernel
theorem word_sub3 : ∀ n : Fin 136, 121 ≤ n.val → word n.val - 25165824#32 = word (n.val - 3) := by decide +kernel

/-- The rounding as integers: adding a number below `2 ^ 24` and dropping 24 bits rounds up where the number is small. -/
theorem count_eq (t : ℝ) (r : ℕ) (h0 : 0 ≤ t) (h16 : t < 16) (hr : r < 2 ^ 24) :
    (⌈t * 2 ^ 24⌉.toNat + (2 ^ 24 - 1 - r)) / 2 ^ 24 = ⌊t⌋.toNat + (if (r : ℝ) * (2 : ℝ) ^ (-24 : ℤ) < t - ⌊t⌋ then 1 else 0) := by
  obtain ⟨fl, hfl⟩ : ∃ n : ℕ, ⌊t⌋ = n := Int.eq_ofNat_of_zero_le (Int.floor_nonneg.2 h0)
  have hf0 : 0 ≤ t - fl := by have := Int.floor_le t; rw [hfl] at this; push_cast at this; linarith
  have hf1 : t - fl < 1 := by have := Int.lt_floor_add_one t; rw [hfl] at this; push_cast at this; linarith
  set y : ℝ := (t - fl) * 2 ^ 24 with hy
  have hy0 : 0 ≤ y := by positivity
  obtain ⟨c, hc⟩ : ∃ n : ℕ, ⌈y⌉ = n := Int.eq_ofNat_of_zero_le (Int.ceil_nonneg hy0)
  have hc1 : c ≤ 2 ^ 24 := by
    have : ⌈y⌉ ≤ 2 ^ 24 := Int.ceil_le.2 (by push_cast; rw [hy]; nlinarith)
    rw [hc] at this; exact_mod_cast this
  have hce : ⌈t * 2 ^ 24⌉ = ((fl * 2 ^ 24 + c : ℕ) : ℤ) := by
    have : t * 2 ^ 24 = y + ((fl * 2 ^ 24 : ℕ) : ℤ) := by push_cast; rw [hy]; ring
    rw [this, Int.ceil_add_intCast, hc]; push_cast; ring
  have hlt : (r : ℝ) * (2 : ℝ) ^ (-24 : ℤ) < t - fl ↔ r < c := by
    have h1 : (r : ℝ) * (2 : ℝ) ^ (-24 : ℤ) < t - fl ↔ (r : ℝ) < y := by
      rw [zpow_neg, ← div_eq_mul_inv, div_lt_iff₀ (by positivity)]
      norm_num [hy]
    have h2 : ((r : ℤ) : ℝ) < y ↔ (r : ℤ) < ⌈y⌉ := Int.lt_ceil.symm
    rw [h1]
    push_cast at h2
    rw [h2, hc]; exact_mod_cast Iff.rfl
  rw [hce, hfl, Int.toNat_natCast, Int.toNat_natCast]
  push_cast
  simp only [hlt]
  split_ifs with h <;> omega

/-- The kernel's count, for a magnitude `t` in spacings. -/
theorem count_word (t : ℝ) (b : BitVec 32) (h0 : 0 ≤ t) (h16 : t < 16) :
    (IntOp.shrui .vector (Ideal.fptosi 32 (Ideal.liftRound Int.ceil ((t * 2 ^ 24 : ℝ) : EReal))
      + (16777215#32 - IntOp.shrui .vector b 8#32)) 24#32).toInt
      = ⌊t⌋ + (if ((IntOp.shrui .vector b 8#32).toNat : ℝ) * (2 : ℝ) ^ (-24 : ℤ) < t - ⌊t⌋ then 1 else 0) := by
  have hs8 : IntOp.shrui .vector b 8#32 = b >>> (8#32) := by simp [IntOp.shrui]
  have hr : (IntOp.shrui .vector b 8#32).toNat < 2 ^ 24 := by
    rw [hs8]
    simp only [BitVec.ushiftRight_eq', BitVec.toNat_ushiftRight]
    have := b.isLt
    simp [Nat.shiftRight_eq_div_pow]
    omega
  generalize hR : IntOp.shrui .vector b 8#32 = R at hr ⊢
  have hcnt := count_eq t R.toNat h0 h16 hr
  have hT0 : 0 ≤ t * 2 ^ 24 := by positivity
  obtain ⟨T, hT⟩ : ∃ n : ℕ, ⌈t * 2 ^ 24⌉ = n := Int.eq_ofNat_of_zero_le (Int.ceil_nonneg hT0)
  have hTle : T ≤ 2 ^ 28 := by
    have : ⌈t * 2 ^ 24⌉ ≤ 2 ^ 28 := Int.ceil_le.2 (by push_cast; nlinarith)
    rw [hT] at this; exact_mod_cast this
  have hi : Ideal.fptosi 32 (Ideal.liftRound Int.ceil ((t * 2 ^ 24 : ℝ) : EReal)) = BitVec.ofNat 32 T := by
    rw [Ideal.liftRound_coe, hT, Ideal.fptosi, Ideal.toIntClamped_coe]
    have : (0 : ℝ) ≤ ((T : ℤ) : ℝ) := by positivity
    rw [if_pos this, Int.floor_intCast]
    have : max (-((2 ^ (32 - 1) : ℕ) : ℤ)) (min (((2 ^ (32 - 1) : ℕ) : ℤ) - 1) (T : ℤ)) = (T : ℤ) := by
      rw [min_eq_right (by norm_num; omega), max_eq_right (by norm_num)]
    rw [this, BitVec.ofInt_natCast]
  have hsub : (16777215#32 - R).toNat = 2 ^ 24 - 1 - R.toNat := by
    rw [BitVec.toNat_sub]; simp; omega
  rw [hi]
  have hsum : (BitVec.ofNat 32 T + (16777215#32 - R)).toNat = T + (2 ^ 24 - 1 - R.toNat) := by
    rw [BitVec.toNat_add, hsub, BitVec.toNat_ofNat]; omega
  have hn : (IntOp.shrui .vector (BitVec.ofNat 32 T + (16777215#32 - R)) 24#32).toNat = (T + (2 ^ 24 - 1 - R.toNat)) / 2 ^ 24 := by
    have : IntOp.shrui .vector (BitVec.ofNat 32 T + (16777215#32 - R)) 24#32 = (BitVec.ofNat 32 T + (16777215#32 - R)) >>> (24#32) := by
      simp [IntOp.shrui]
    rw [this]
    simp only [BitVec.ushiftRight_eq', BitVec.toNat_ushiftRight, hsum]
    simp [Nat.shiftRight_eq_div_pow]
  rw [BitVec.toInt_eq_toNat_of_lt (by rw [hn]; omega), hn]
  rw [hT, Int.toNat_natCast] at hcnt
  rw [hcnt]
  have : ((⌊t⌋.toNat : ℕ) : ℤ) = ⌊t⌋ := Int.toNat_of_nonneg (Int.floor_nonneg.2 h0)
  push_cast
  rw [this]

theorem abs_coe (r : ℝ) : max (r : EReal) (-(r : EReal)) = ((|r| : ℝ) : EReal) := by
  rw [← EReal.coe_neg, ← EReal.coe_strictMono.monotone.map_max]; rfl

/-- The field of a magnitude of at most 448 and the reference's exponent of the spacing. -/
theorem spacing (s : ℝ) (h0 : 0 ≤ s) (h448 : s ≤ 448) :
    ∃ n : ℕ, 121 ≤ n ∧ n < 136 ∧ IntOp.maxsi (field (s : EReal)) 1015021568#32 = word n
      ∧ s < (2 : ℝ) ^ ((n : ℤ) - 126)
      ∧ max (Ideal.liftRound Int.floor (log2 (s : EReal)) + 1) (((-5 : ℝ)) : EReal) - ((4 : ℝ) : EReal) = ((((n : ℤ) - 130 : ℤ) : ℝ) : EReal) := by
  obtain ⟨n, hn, hf, hlo, hup⟩ := field_spec (s : EReal)
  have hn136 : n < 136 := by
    by_contra h
    rcases Nat.lt_or_ge n 255 with h5 | h5
    · have hv : val n ≤ (s : EReal) := by rcases hlo with h' | h' <;> [omega; exact h']
      rw [val_mid n (by omega) (by omega), EReal.coe_le_coe_iff] at hv
      have : (2 : ℝ) ^ (9 : ℤ) ≤ (2 : ℝ) ^ ((n : ℤ) - 127) := zpow_le_of (by omega)
      norm_num at this; linarith
    · have : n = 255 := by omega
      subst this
      rcases hlo with h' | h'
      · omega
      · rw [val_top] at h'; simp at h'
  have hup' : s < (2 : ℝ) ^ ((n : ℤ) - 126) := by
    rcases hup with h | h
    · omega
    · rw [val_mid (n + 1) (by omega) (by omega), EReal.coe_lt_coe_iff] at h
      convert h using 2; push_cast; ring
  refine ⟨max n 121, le_max_right _ _, by omega, ?_, hup'.trans_le (zpow_le_of (by omega)), ?_⟩
  · rw [hf]; exact word_max ⟨n, hn136⟩
  have key : ∀ e : ℤ, e ≤ max ((n : ℤ) - 126) (-5) → (e = (n : ℤ) - 126 ∨ (n ≤ 121 ∧ e ≤ -5)) →
      max (((e : ℝ) : EReal)) (((-5 : ℝ)) : EReal) - ((4 : ℝ) : EReal) = (((((max n 121 : ℕ) : ℤ) - 130 : ℤ) : ℝ) : EReal) := by
    intro e _ he
    rw [← EReal.coe_strictMono.monotone.map_max, ← EReal.coe_sub]
    congr 1
    have : max (e : ℝ) (-5) = ((max e (-5) : ℤ) : ℝ) := by push_cast; rfl
    rw [this, show max e (-5) = (((max n 121 : ℕ) : ℤ) - 126) by omega]
    push_cast; ring
  rcases h0.eq_or_lt with rfl | hs
  · have hn0 : n = 0 := by
      rcases hlo with h | h
      · exact h
      · by_contra hne
        rw [val_mid n (by omega) (by omega), EReal.coe_le_coe_iff] at h
        have : (0 : ℝ) < (2 : ℝ) ^ ((n : ℤ) - 127) := by positivity
        linarith
    subst hn0
    have : log2 ((0 : ℝ) : EReal) = ⊥ := log2_zero
    rw [this, Ideal.liftRound_bot, EReal.bot_add, max_eq_right bot_le, ← EReal.coe_sub]
    congr 1; norm_num
  · have hfl : ∀ a : ℤ, (2 : ℝ) ^ a ≤ s → s < (2 : ℝ) ^ (a + 1) →
        Ideal.liftRound Int.floor (log2 (s : EReal)) + 1 = (((a + 1 : ℤ) : ℝ) : EReal) := by
      intro a h h'
      rw [floor_log2 s a h h', ← EReal.coe_one, ← EReal.coe_add]; push_cast; rfl
    obtain ⟨a, ha, ha'⟩ := exists_mem_Ico_zpow (y := (2 : ℝ)) hs (by norm_num)
    rw [hfl a ha ha']
    have hlt : a < (n : ℤ) - 126 := by
      by_contra h
      have := zpow_le_of (a := (n : ℤ) - 126) (b := a) (by omega)
      linarith
    refine key (a + 1) (by omega) ?_
    rcases Nat.eq_zero_or_pos n with h | h
    · right; omega
    · left
      have hv : val n ≤ (s : EReal) := by rcases hlo with h' | h' <;> [omega; exact h']
      rw [val_mid n (by omega) (by omega), EReal.coe_le_coe_iff] at hv
      by_contra hne
      have : (2 : ℝ) ^ (a + 1) ≤ (2 : ℝ) ^ ((n : ℤ) - 127) := zpow_le_of (by omega)
      linarith

/-- The kernel's code is the reference's. -/
theorem code_eq (v : ℝ) (b : BitVec 32) (hv : |v| ≤ 448) : kCode (v : EReal) b = rCode (v : EReal) (uniform b) := by
  obtain ⟨n, hn0, hn1, hf, hs, hk⟩ := spacing |v| (abs_nonneg v) hv
  have hF : kField (v : EReal) = word n := by rw [kField, abs_coe, hf]
  have hK : rSpacing (v : EReal) = ((((n : ℤ) - 130 : ℤ) : ℝ) : EReal) := by rw [rSpacing, abs_coe, hk]
  obtain ⟨t, ht⟩ : ∃ t : ℝ, t = |v| * (2 : ℝ) ^ (130 - (n : ℤ)) := ⟨_, rfl⟩
  have hp : (2 : ℝ) ^ (130 - (n : ℤ)) * (2 : ℝ) ^ ((n : ℤ) - 130) = 1 := by
    rw [← zpow_add₀ (by norm_num)]; simp
  have ht0 : 0 ≤ t := by rw [ht]; positivity
  have ht16 : t < 16 := by
    rw [ht]
    have h1 : (2 : ℝ) ^ ((n : ℤ) - 126) * (2 : ℝ) ^ (130 - (n : ℤ)) = 16 := by
      rw [← zpow_add₀ (by norm_num), show (n : ℤ) - 126 + (130 - n) = 4 by ring]; norm_num
    calc _ < (2 : ℝ) ^ ((n : ℤ) - 126) * (2 : ℝ) ^ (130 - (n : ℤ)) := by
          apply mul_lt_mul_of_pos_right hs; positivity
      _ = 16 := h1
  have hQ : rQuot (v : EReal) = (t : EReal) := by
    rw [rQuot, abs_coe, hK, ← EReal.coe_zero, ← EReal.coe_sub,
      show (0 : ℝ) - (((n : ℤ) - 130 : ℤ) : ℝ) = ((130 - (n : ℤ) : ℤ) : ℝ) by push_cast; ring, exp2_int, ← EReal.coe_mul, ht]
  have h281 : Ideal.ofBits .f32 (2357198848#32 - word n) = (((2 : ℝ) ^ (154 - (n : ℤ)) : ℝ) : EReal) := by
    have := word_281 ⟨n, hn1⟩ hn0
    simp only at this
    rw [this]
    show val (281 - n) = _
    rw [val_mid _ (by omega) (by omega)]
    congr 2; omega
  have hsp : Ideal.ofBits .f32 (word n - 25165824#32) = (((2 : ℝ) ^ ((n : ℤ) - 130) : ℝ) : EReal) := by
    have := word_sub3 ⟨n, hn1⟩ hn0
    simp only at this
    rw [this]
    show val (n - 3) = _
    rw [val_mid _ (by omega) (by omega)]
    congr 2; omega
  -- the number of spacings
  obtain ⟨N, hN⟩ : ∃ N : ℤ, N = ⌊t⌋ + (if ((IntOp.shrui .vector b 8#32).toNat : ℝ) * (2 : ℝ) ^ (-24 : ℤ) < t - ⌊t⌋ then 1 else 0) :=
    ⟨_, rfl⟩
  have hkM : kMag (v : EReal) b = (((N : ℝ) * (2 : ℝ) ^ ((n : ℤ) - 130) : ℝ) : EReal) := by
    have ht24 : max (v : EReal) (-(v : EReal)) * Ideal.ofBits .f32 (2357198848#32 - word n) = ((t * 2 ^ 24 : ℝ) : EReal) := by
      rw [abs_coe, h281, ← EReal.coe_mul, ht]
      congr 1
      rw [mul_assoc, ← zpow_natCast, ← zpow_add₀ (by norm_num)]
      congr 2; push_cast; ring
    rw [kMag, kCount, hF, ht24, count_word t b ht0 ht16, hsp, ← EReal.coe_mul, hN]
  have hrM : rMag (v : EReal) (uniform b) = (((N : ℝ) * (2 : ℝ) ^ ((n : ℤ) - 130) : ℝ) : EReal) := by
    rw [rMag, hQ, hK, exp2_int, Ideal.liftRound_coe, ← EReal.coe_sub, uniform, ← EReal.coe_mul, hN]
    simp only [EReal.coe_lt_coe_iff]
    split_ifs with h
    · rw [← EReal.coe_one, ← EReal.coe_add, ← EReal.coe_mul]; push_cast; rfl
    · rw [add_zero, ← EReal.coe_mul]; push_cast; simp
  -- the result stays within 448
  have hN0 : 0 ≤ N := by
    have := Int.floor_nonneg.2 ht0
    rw [hN]; split_ifs <;> omega
  have hNc : N ≤ ⌈t⌉ := by
    rw [hN]
    split_ifs with h
    · have : ⌊t⌋ < ⌈t⌉ := by
        rw [Int.lt_ceil]
        have h0 : (0 : ℝ) ≤ ((IntOp.shrui .vector b 8#32).toNat : ℝ) * (2 : ℝ) ^ (-24 : ℤ) := by positivity
        linarith
      omega
    · rw [add_zero]; exact Int.floor_le_ceil t
  have hm448 : (N : ℝ) * (2 : ℝ) ^ ((n : ℤ) - 130) ≤ 448 := by
    obtain ⟨d, hd⟩ : ∃ d : ℕ, (n : ℤ) + d = 136 := ⟨136 - n, by omega⟩
    have h448 : (448 : ℝ) * (2 : ℝ) ^ (130 - (n : ℤ)) = ((7 * 2 ^ d : ℕ) : ℤ) := by
      rw [show 130 - (n : ℤ) = (d : ℤ) + (-6) by omega, zpow_add₀ (by norm_num)]
      push_cast
      rw [zpow_natCast]; norm_num; ring
    have htc : ⌈t⌉ ≤ ((7 * 2 ^ d : ℕ) : ℤ) := by
      rw [Int.ceil_le, ← h448, ht]
      apply mul_le_mul_of_nonneg_right hv; positivity
    have hNd : (N : ℝ) ≤ 448 * (2 : ℝ) ^ (130 - (n : ℤ)) := by
      rw [h448]; exact_mod_cast hNc.trans htc
    calc _ ≤ (448 * (2 : ℝ) ^ (130 - (n : ℤ))) * (2 : ℝ) ^ ((n : ℤ) - 130) := by
          apply mul_le_mul_of_nonneg_right hNd; positivity
      _ = 448 := by rw [mul_assoc, hp, mul_one]
  set M : ℝ := (N : ℝ) * (2 : ℝ) ^ ((n : ℤ) - 130) with hM
  have hM0 : 0 ≤ M := by rw [hM]; have : (0 : ℝ) ≤ N := by exact_mod_cast hN0
                         positivity
  have hclip : ∀ y : ℝ, |y| ≤ 448 → min ((448 : ℝ) : EReal) (max ((-448 : ℝ) : EReal) (y : EReal)) = (y : EReal) := by
    intro y hy
    obtain ⟨h1, h2⟩ := abs_le.1 hy
    rw [max_eq_right (EReal.coe_le_coe_iff.2 h1), min_eq_right (EReal.coe_le_coe_iff.2 h2)]
  rw [kCode, rCode, hkM, hrM, abs_coe]
  have hpos : (0 : EReal) < ((|v| : ℝ) : EReal) ↔ v ≠ 0 := by
    rw [← EReal.coe_zero, EReal.coe_lt_coe_iff, abs_pos]
  have hneg : (v : EReal) < 0 ↔ v < 0 := by rw [← EReal.coe_zero, EReal.coe_lt_coe_iff]
  simp only [hpos, hneg]
  rcases lt_trichotomy v 0 with h | h | h
  · rw [if_pos h, if_pos h.ne, if_pos h]
    have : (-1 : EReal) * (M : EReal) = ((-M : ℝ) : EReal) := by
      rw [show (-1 : EReal) = ((-1 : ℝ) : EReal) by norm_num, ← EReal.coe_mul]; congr 1; ring
    rw [this, hclip (-M) (by rw [abs_neg, abs_of_nonneg hM0]; exact hm448), ← EReal.coe_zero, ← EReal.coe_sub, zero_sub]
  · have hN00 : N = 0 := by
      have : t = 0 := by rw [ht, h]; simp
      rw [this] at hNc; simp at hNc; omega
    have hM00 : M = 0 := by rw [hM, hN00]; simp
    subst h
    rw [hM00]
    simp
  · rw [if_neg h.not_gt, if_pos h.ne', if_neg h.not_gt, one_mul, hclip M (by rw [abs_of_nonneg hM0]; exact hm448)]

/-! ### A block of 128 numbers -/

/-- The largest magnitude of a block over 448. -/
def top (f : Fin 128 → EReal) : EReal :=
  (Finset.univ : Finset (Fin 128)).fold max (Ideal.ofBits .f32 0xFF800000#32) (fun k => max (f k) (-f k)) * Ideal.ofBits .f32 0x3B124925#32

/-- The clip to the codes' range. -/
def clip (x : EReal) : EReal := min (Ideal.ofBits .f32 0x43E00000#32) (max (Ideal.ofBits .f32 0xC3E00000#32) x)

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul, -EReal.coe_neg]; norm_num

theorem clip_real (x : EReal) : ∃ r : ℝ, clip x = r ∧ |r| ≤ 448 := by
  rw [clip, ofBits_448, ofBits_neg448]
  induction x with
  | bot => exact ⟨-448, by rw [max_eq_left bot_le, min_eq_right (EReal.coe_le_coe_iff.2 (by norm_num))], by norm_num⟩
  | top => exact ⟨448, by rw [max_eq_right le_top, min_eq_left le_top], by norm_num⟩
  | coe r =>
    refine ⟨min 448 (max (-448) r), ?_, ?_⟩
    · rw [EReal.coe_strictMono.monotone.map_min, EReal.coe_strictMono.monotone.map_max]
    · rw [abs_le]
      exact ⟨le_min (by norm_num) (le_max_left _ _), min_le_left _ _⟩

/-- The scale of a block. -/
def qScale (f : Fin 128 → EReal) : EReal := rScale (top f)

/-- The code of number `j` of a block, for the random word `b`. -/
def qCode (f : Fin 128 → EReal) (j : Fin 128) (b : BitVec 32) : EReal := rCode (clip (f j * rInv (top f))) (uniform b)

theorem kScale_top (f : Fin 128 → EReal) : kScale (top f) = qScale f := (scale_and_inv _).1

theorem kCode_clip (f : Fin 128 → EReal) (j : Fin 128) (b : BitVec 32) : kCode (clip (f j * kInv (top f))) b = qCode f j b := by
  rw [(scale_and_inv _).2, qCode]
  obtain ⟨r, hr, h⟩ := clip_real (f j * rInv (top f))
  rw [hr]
  exact code_eq r b h

end Cert.Proof.Sc

end
-- ==== Proof.KernelEls.lean ====
/- The kernel's body read at an index, over the extended reals. -/
module

public import proofs.«01_k».proof.Proof.KernelBody
public import proofs.«01_k».proof.Proof.Code
public import Idealize.ShloMosaic.Lib.Pointwise

@[expose] public section

noncomputable section

namespace Cert.Proof.Ker

open Cert.KernelIdeal Cert.KernelIdeal.Gen Idealize.ShloMosaic Idealize.ShloMosaic.TcCoe Idealize.SL.Sem

/-- A comparison's bit selects as its proposition does. -/
theorem select_lt {α : Type} (x y : EReal) (a b : α) : Scalar.select (Ideal.cmp .olt x y) a b = if x < y then a else b := by
  by_cases h : x < y <;> simp [Scalar.select, Ideal.cmp, h]

theorem ofBool_beq (x y : BitVec 32) : (BitVec.ofBool (x == y) = 1#1) = (x = y) := by
  by_cases h : x = y
  · simp [h]
  · simp [h, beq_eq_false_iff_ne.2 h]

theorem fieldStep_apply {s : Shape} (x : FVec Ideal s .f32) (k : BitVec 32) (f : IVec s 32) (i : s.Idx) :
    fieldStep x k f i = Sc.step (x i) k (f i) := select_lt _ _ _ _

theorem expField_apply {s : Shape} (x : FVec Ideal s .f32) (i : s.Idx) : expField x i = Sc.field (x i) := by
  simp only [expField, Sc.field, fieldStep_apply]; rfl

theorem mNew_apply (g : Vec Ideal S256x128 .f32) (mc : Vec Ideal S256x128 .fp8e4m3) (ms : Vec Ideal S256x1 .f32)
    (r : Fin 256) (c : Fin 128) :
    mNew g mc ms (ix2 r c) = Ideal.ofBits .f32 0x3F666666#32 * (mc (ix2 r c) * ms (ix2 r (0 : Fin 1)))
      + g (ix2 r c) * Ideal.ofBits .f32 0x38888889#32 := by
  pointwise [mNew]

theorem wNew_apply (g : Vec Ideal S256x128 .f32) (wc : Vec Ideal S256x128 .fp8e4m3) (ws : Vec Ideal S256x1 .f32)
    (mc : Vec Ideal S256x128 .fp8e4m3) (ms : Vec Ideal S256x1 .f32) (r : Fin 256) (c : Fin 128) :
    wNew g wc ws mc ms (ix2 r c) = wc (ix2 r c) * ws (ix2 r (0 : Fin 1)) - Ideal.ofBits .f32 0x3D4CCCCD#32 * mNew g mc ms (ix2 r c) := by
  pointwise [wNew]

theorem rowTop_apply (val : FVec Ideal S256x128 .f32) (r : Fin 256) : rowTop val (ix2 r (0 : Fin 1)) = Sc.top fun k => val (ix2 r k) := by
  pointwise [rowTop, Sc.top]
  rfl

theorem scaleOf_apply (val : FVec Ideal S256x128 .f32) (r : Fin 256) :
    scaleOf val (ix2 r (0 : Fin 1)) = Sc.qScale fun k => val (ix2 r k) := by
  rw [← Sc.kScale_top, ← rowTop_apply, Sc.kScale, ← expField_apply]
  by_cases h : expField (rowTop val) (ix2 r (0 : Fin 1)) = 0#32 <;>
    simp [scaleOf, bitcastToFloat, select, Scalar.select, cmpi, IntOp.cmpi, addi, IntOp.addi, broadcast, ofBool_beq, h]

theorem invOf_apply (val : FVec Ideal S256x128 .f32) (r : Fin 256) :
    invOf val (ix2 r (0 : Fin 1)) = Sc.kInv (Sc.top fun k => val (ix2 r k)) := by
  rw [← rowTop_apply, Sc.kInv, ← expField_apply]
  by_cases h : expField (rowTop val) (ix2 r (0 : Fin 1)) = 0#32 <;>
    simp [invOf, bitcastToFloat, select, Scalar.select, cmpi, IntOp.cmpi, subi, IntOp.subi, broadcast, ofBool_beq, h]

theorem clipOf_apply (val : FVec Ideal S256x128 .f32) (r : Fin 256) (c : Fin 128) :
    clipOf val (ix2 r c) = Sc.clip (val (ix2 r c) * Sc.kInv (Sc.top fun k => val (ix2 r k))) := by
  rw [← invOf_apply]
  pointwise [clipOf, Sc.clip]

theorem absf_eq (x : EReal) : FloatOps.absf (F := Ideal) (φ := .f32) x = max x (-x) := rfl
theorem fptosi_eq (x : EReal) : FloatOps.fptosi (F := Ideal) (φ := .f32) 32 x = Ideal.fptosi 32 x := rfl
theorem sitofp_eq (x : BitVec 32) : FloatOps.sitofp (F := Ideal) .f32 x = ((x.toInt : ℝ) : EReal) := rfl

theorem codeField_apply (v : FVec Ideal S256x128 .f32) (i : S256x128.Idx) : codeField v i = Sc.kField (v i) := by
  simp -implicitDefEqProofs only [codeField, maxsi, broadcast, expField_apply, absf, absf_eq, Sc.kField]

theorem codeCount_apply (v : FVec Ideal S256x128 .f32) (bits : IVec S256x128 32) (i : S256x128.Idx) :
    codeCount v bits i = Sc.kCount (v i) (bits i) := by
  rw [Sc.kCount, ← codeField_apply]
  simp -implicitDefEqProofs only [codeCount, shrui, addi, subi, IntOp.addi, IntOp.subi, broadcast, fptosi, ceil, mulf, absf, bitcastToFloat,
    fptosi_eq, absf_eq, Ideal.ceil_def, Ideal.mulf_def, Ideal.ofBits_def]

theorem codeMag_apply (v : FVec Ideal S256x128 .f32) (bits : IVec S256x128 32) (i : S256x128.Idx) :
    codeMag v bits i = Sc.kMag (v i) (bits i) := by
  rw [Sc.kMag, ← codeField_apply, ← codeCount_apply]
  simp -implicitDefEqProofs only [codeMag, mulf, subi, IntOp.subi, broadcast, sitofp, bitcastToFloat, sitofp_eq, Ideal.mulf_def, Ideal.ofBits_def]

theorem codesOfClip_apply (v : FVec Ideal S256x128 .f32) (bits : IVec S256x128 32) (i : S256x128.Idx) :
    codesOfClip v bits i = Sc.kCode (v i) (bits i) := by
  have h0 : Ideal.ofBits .f32 0x00000000#32 = 0 := Ideal.ofBits_zero_f32
  rw [Sc.kCode, ← codeMag_apply]
  refine (select_lt (v i) (Ideal.ofBits .f32 0x00000000#32) (Ideal.ofBits .f32 0x00000000#32 - codeMag v bits i) (codeMag v bits i)).trans ?_
  rw [h0]

theorem codesOf_apply (val : FVec Ideal S256x128 .f32) (bits : IVec S256x128 32) (r : Fin 256) (c : Fin 128) :
    codesOf val bits (ix2 r c) = Sc.qCode (fun k => val (ix2 r k)) c (bits (ix2 r c)) := by
  rw [← Sc.kCode_clip, ← clipOf_apply, ← codesOfClip_apply, codesOf]

end Cert.Proof.Ker

end
-- ==== Proof.KernelPieces.lean ====
/- What the kernel's stores leave in the four outputs' buffers at a grid point, by the functions of KernelBody.lean. -/
module

public import proofs.«01_k».proof.Proof.KernelBody

@[expose] public section

noncomputable section

namespace Cert.Proof.Ker

open Cert.KernelIdeal Cert.KernelIdeal.Gen Idealize.ShloMosaic Idealize.ShloMosaic.TcCoe Idealize.SL.Sem
open Idealize.ShloMosaic.Tactic

variable {F : FTy → Type} [FloatOps F]

theorem two_zeros : (![0, 0] : Fin 2 → ℕ) = fun _ => 0 := by
  funext a; match a with
  | ⟨0, _⟩ => rfl
  | ⟨1, _⟩ => rfl

/-- A load of the scratch buffer after its one store reads the stored product. -/
theorem readCov_whole (v : View sig .tc .vmem S256x1024 .f32) (w : Vec F S256x1024 .f32)
    (h : ∀ a, (![0, 0] : Fin 2 → ℕ) a + (![256, 1024] : Fin 2 → ℕ) a ≤ S256x1024.size a) (r : Rect S256x1024) :
    v.readCov [(⟨Rect.unit (s := S256x1024) ![0, 0] ![256, 1024] h, w⟩ : View.Piece (Elt F) S256x1024 .f32)] r.toLoadRect
      = View.ld w r := by
  rw [View.readCov_eq_canon_ld _ _ _ (fun y => ⟨_, List.mem_singleton_self _, View.mem_set_unit_zero two_zeros h y⟩)]
  exact congrArg (View.ld · r) (View.canon_unit_zero two_zeros h w)

theorem ld_whole_0 (x : Vec F S15360x1024 .bf16)
    (h : ∀ a, (![0, 0] : Fin 2 → ℕ) a + (![15360, 1024] : Fin 2 → ℕ) a ≤ S15360x1024.size a) :
    View.ld x (Rect.unit (s := S15360x1024) ![0, 0] ![15360, 1024] h) = x := View.ld_unit_zero two_zeros h x

theorem ld_whole_1 (x : Vec F S15360x256 .bf16)
    (h : ∀ a, (![0, 0] : Fin 2 → ℕ) a + (![15360, 256] : Fin 2 → ℕ) a ≤ S15360x256.size a) :
    View.ld x (Rect.unit (s := S15360x256) ![0, 0] ![15360, 256] h) = x := View.ld_unit_zero two_zeros h x

theorem canon_whole (w : Vec F S256x8 .f32)
    (h : ∀ a, (![0, 0] : Fin 2 → ℕ) a + (![256, 8] : Fin 2 → ℕ) a ≤ S256x8.size a) :
    View.canon [(⟨Rect.unit (s := S256x8) ![0, 0] ![256, 8] h, w⟩ : View.Piece (Elt F) S256x8 .f32)] = w :=
  View.canon_unit_zero two_zeros h w

/-- The stored product. -/
theorem k0_pay4_eq (x0 : Vec F S15360x1024 .bf16) (x1 : Vec F S15360x256 .bf16) : k0_pay4 x1 x0 = acc x0 x1 := by
  unfold k0_pay4 acc; dsimp only; rw [shapeCast_self, shapeCast_self, shapeCast_self]

section
variable (c : Dev nD) (i : grid0.Coords) (arg1 : Memref sig .tc .vmem S15360x1024 .bf16) (harg1 : arg1.IsWhole) (arg2 : Memref
  sig .tc .vmem S15360x256 .bf16) (harg2 : arg2.IsWhole) (arg3 : Memref sig .tc .vmem S256x1024 .fp8e4m3) (harg3 :
  arg3.IsWhole) (arg4 : Memref sig .tc .vmem S256x8 .f32) (harg4 : arg4.IsWhole) (arg5 : Memref sig .tc .vmem S256x1024
  .fp8e4m3) (harg5 : arg5.IsWhole) (arg6 : Memref sig .tc .vmem S256x8 .f32) (harg6 : arg6.IsWhole) (arg7 : Memref sig
  .tc .vmem S256x1024 .i32) (harg7 : arg7.IsWhole) (arg8 : Memref sig .tc .vmem S256x1024 .i32) (harg8 : arg8.IsWhole)
  (arg9 : Memref sig .tc .vmem S256x1024 .fp8e4m3) (harg9 : arg9.IsWhole) (arg10 : Memref sig .tc .vmem S256x8 .f32)
  (harg10 : arg10.IsWhole) (arg11 : Memref sig .tc .vmem S256x1024 .fp8e4m3) (harg11 : arg11.IsWhole) (arg12 : Memref
  sig .tc .vmem S256x8 .f32) (harg12 : arg12.IsWhole) (arg13 : Memref sig .tc .vmem S256x1024 .f32) (harg13 :
  arg13.IsWhole)
  (x0 : Vec F S15360x1024 .bf16) (x1 : Vec F S15360x256 .bf16) (x2 : Vec F S256x1024 .fp8e4m3) (x3 : Vec F S256x8 .f32)
  (x4 : Vec F S256x1024 .fp8e4m3) (x5 : Vec F S256x8 .f32) (x6 : Vec F S256x1024 .i32) (x7 : Vec F S256x1024 .i32)

set_option maxHeartbeats 4000000 in
theorem out_8 : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = View.canon [wPiece (acc x0 x1) x2 x3 x4 x5 896 7 inb_S256x1024_S256x128_0_896 inb_S256x8_S256x1_0_7 x6,
      wPiece (acc x0 x1) x2 x3 x4 x5 768 6 inb_S256x1024_S256x128_0_768 inb_S256x8_S256x1_0_6 x6,
      wPiece (acc x0 x1) x2 x3 x4 x5 640 5 inb_S256x1024_S256x128_0_640 inb_S256x8_S256x1_0_5 x6,
      wPiece (acc x0 x1) x2 x3 x4 x5 512 4 inb_S256x1024_S256x128_0_512 inb_S256x8_S256x1_0_4 x6,
      wPiece (acc x0 x1) x2 x3 x4 x5 384 3 inb_S256x1024_S256x128_0_384 inb_S256x8_S256x1_0_3 x6,
      wPiece (acc x0 x1) x2 x3 x4 x5 256 2 inb_S256x1024_S256x128_0_256 inb_S256x8_S256x1_0_2 x6,
      wPiece (acc x0 x1) x2 x3 x4 x5 128 1 inb_S256x1024_S256x128_0_128 inb_S256x8_S256x1_0_1 x6,
      wPiece (acc x0 x1) x2 x3 x4 x5 0 0 inb_S256x1024_S256x128_0_0 inb_S256x8_S256x1_0_0 x6] := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  simp only [View.readAt_eq_ld, harg1.read_unread, harg2.read_unread, harg3.read_unread, harg4.read_unread,
    harg5.read_unread, harg6.read_unread, harg7.read_unread, harg8.read_unread]
  simp only [readCov_whole, ld_whole_0, ld_whole_1, k0_pay4_eq]
  rfl

set_option maxHeartbeats 4000000 in
theorem out_10 : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = View.canon [mPiece (acc x0 x1) x4 x5 896 7 inb_S256x1024_S256x128_0_896 inb_S256x8_S256x1_0_7 x7,
      mPiece (acc x0 x1) x4 x5 768 6 inb_S256x1024_S256x128_0_768 inb_S256x8_S256x1_0_6 x7,
      mPiece (acc x0 x1) x4 x5 640 5 inb_S256x1024_S256x128_0_640 inb_S256x8_S256x1_0_5 x7,
      mPiece (acc x0 x1) x4 x5 512 4 inb_S256x1024_S256x128_0_512 inb_S256x8_S256x1_0_4 x7,
      mPiece (acc x0 x1) x4 x5 384 3 inb_S256x1024_S256x128_0_384 inb_S256x8_S256x1_0_3 x7,
      mPiece (acc x0 x1) x4 x5 256 2 inb_S256x1024_S256x128_0_256 inb_S256x8_S256x1_0_2 x7,
      mPiece (acc x0 x1) x4 x5 128 1 inb_S256x1024_S256x128_0_128 inb_S256x8_S256x1_0_1 x7,
      mPiece (acc x0 x1) x4 x5 0 0 inb_S256x1024_S256x128_0_0 inb_S256x8_S256x1_0_0 x7] := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  simp only [View.readAt_eq_ld, harg1.read_unread, harg2.read_unread, harg3.read_unread, harg4.read_unread,
    harg5.read_unread, harg6.read_unread, harg7.read_unread, harg8.read_unread]
  simp only [readCov_whole, ld_whole_0, ld_whole_1, k0_pay4_eq]
  rfl

set_option maxHeartbeats 4000000 in
theorem out_9 : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = k0_pay2 (scaleOf (wBlk (acc x0 x1) x2 x3 x4 x5 0 0 inb_S256x1024_S256x128_0_0 inb_S256x8_S256x1_0_0))
      (scaleOf (wBlk (acc x0 x1) x2 x3 x4 x5 128 1 inb_S256x1024_S256x128_0_128 inb_S256x8_S256x1_0_1))
      (scaleOf (wBlk (acc x0 x1) x2 x3 x4 x5 256 2 inb_S256x1024_S256x128_0_256 inb_S256x8_S256x1_0_2))
      (scaleOf (wBlk (acc x0 x1) x2 x3 x4 x5 384 3 inb_S256x1024_S256x128_0_384 inb_S256x8_S256x1_0_3))
      (scaleOf (wBlk (acc x0 x1) x2 x3 x4 x5 512 4 inb_S256x1024_S256x128_0_512 inb_S256x8_S256x1_0_4))
      (scaleOf (wBlk (acc x0 x1) x2 x3 x4 x5 640 5 inb_S256x1024_S256x128_0_640 inb_S256x8_S256x1_0_5))
      (scaleOf (wBlk (acc x0 x1) x2 x3 x4 x5 768 6 inb_S256x1024_S256x128_0_768 inb_S256x8_S256x1_0_6))
      (scaleOf (wBlk (acc x0 x1) x2 x3 x4 x5 896 7 inb_S256x1024_S256x128_0_896 inb_S256x8_S256x1_0_7)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  simp only [View.readAt_eq_ld, harg1.read_unread, harg2.read_unread, harg3.read_unread, harg4.read_unread,
    harg5.read_unread, harg6.read_unread, harg7.read_unread, harg8.read_unread]
  simp only [readCov_whole, ld_whole_0, ld_whole_1, k0_pay4_eq, canon_whole]
  rfl

set_option maxHeartbeats 4000000 in
theorem out_11 : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = k0_pay3 (scaleOf (mBlk (acc x0 x1) x4 x5 0 0 inb_S256x1024_S256x128_0_0 inb_S256x8_S256x1_0_0))
      (scaleOf (mBlk (acc x0 x1) x4 x5 128 1 inb_S256x1024_S256x128_0_128 inb_S256x8_S256x1_0_1))
      (scaleOf (mBlk (acc x0 x1) x4 x5 256 2 inb_S256x1024_S256x128_0_256 inb_S256x8_S256x1_0_2))
      (scaleOf (mBlk (acc x0 x1) x4 x5 384 3 inb_S256x1024_S256x128_0_384 inb_S256x8_S256x1_0_3))
      (scaleOf (mBlk (acc x0 x1) x4 x5 512 4 inb_S256x1024_S256x128_0_512 inb_S256x8_S256x1_0_4))
      (scaleOf (mBlk (acc x0 x1) x4 x5 640 5 inb_S256x1024_S256x128_0_640 inb_S256x8_S256x1_0_5))
      (scaleOf (mBlk (acc x0 x1) x4 x5 768 6 inb_S256x1024_S256x128_0_768 inb_S256x8_S256x1_0_6))
      (scaleOf (mBlk (acc x0 x1) x4 x5 896 7 inb_S256x1024_S256x128_0_896 inb_S256x8_S256x1_0_7)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  simp only [View.readAt_eq_ld, harg1.read_unread, harg2.read_unread, harg3.read_unread, harg4.read_unread,
    harg5.read_unread, harg6.read_unread, harg7.read_unread, harg8.read_unread]
  simp only [readCov_whole, ld_whole_0, ld_whole_1, k0_pay4_eq, canon_whole]
  rfl
end

end Cert.Proof.Ker

end
-- ==== Proof.Rows.lean ====
/- The step over whole rows, over the extended reals: new momentum and weight, and the codes and scales of each block of 128. The
   kernel's blocks of rows and the reference's arrays both read as these. -/
module

public import proofs.«01_k».proof.Proof.Code
public import Idealize.ShloMosaic.Lib.Pointwise

@[expose] public section

noncomputable section

namespace Cert.Proof.Sc

open Idealize.ShloMosaic

/-- Column `k` of block `b`. -/
def col (b : Fin 8) (k : Fin 128) : Fin 1024 := ⟨128 * b.val + k.val, by have := b.isLt; have := k.isLt; omega⟩

/-- The block of a column. -/
def blk (c : Fin 1024) : Fin 8 := ⟨c.val / 128, by have := c.isLt; omega⟩

/-- Its place in the block. -/
def pos (c : Fin 1024) : Fin 128 := ⟨c.val % 128, by omega⟩

theorem col_blk_pos (c : Fin 1024) : col (blk c) (pos c) = c := Fin.ext (Nat.div_add_mod c.val 128)
theorem blk_col (b : Fin 8) (k : Fin 128) : blk (col b k) = b := Fin.ext (by have := k.isLt; show (128 * b.val + k.val) / 128 = b.val; omega)
theorem pos_col (b : Fin 8) (k : Fin 128) : pos (col b k) = k := Fin.ext (by have := k.isLt; show (128 * b.val + k.val) % 128 = k.val; omega)

/-- The new momentum, from the sum over the tokens, the old code and its block's scale. -/
def mVal (g mc ms : EReal) : EReal :=
  Ideal.ofBits .f32 0x3F666666#32 * (mc * ms) + g * Ideal.ofBits .f32 0x38888889#32

/-- The new weight. -/
def wVal (g wc ws mc ms : EReal) : EReal := wc * ws - Ideal.ofBits .f32 0x3D4CCCCD#32 * mVal g mc ms

section
variable {n : ℕ} (g wc : (⟨2, ![n, 1024]⟩ : Shape).Idx → EReal) (ws : (⟨2, ![n, 8]⟩ : Shape).Idx → EReal)
  (mc : (⟨2, ![n, 1024]⟩ : Shape).Idx → EReal) (ms : (⟨2, ![n, 8]⟩ : Shape).Idx → EReal)
  (bits : (⟨2, ![n, 1024]⟩ : Shape).Idx → BitVec 32)

/-- Block `b` of row `o` of the new momentum. -/
def mRow (o : Fin n) (b : Fin 8) : Fin 128 → EReal := fun k =>
  mVal (g (ix2 o (col b k))) (mc (ix2 o (col b k))) (ms (ix2 o b))

/-- Block `b` of row `o` of the new weight. -/
def wRow (o : Fin n) (b : Fin 8) : Fin 128 → EReal := fun k =>
  wVal (g (ix2 o (col b k))) (wc (ix2 o (col b k))) (ws (ix2 o b)) (mc (ix2 o (col b k))) (ms (ix2 o b))

end

/-- Blocks of equal sums, codes and scales are equal. -/
theorem mRow_congr {n n' : ℕ} {g mc : (⟨2, ![n, 1024]⟩ : Shape).Idx → EReal} {ms : (⟨2, ![n, 8]⟩ : Shape).Idx → EReal}
    {g' mc' : (⟨2, ![n', 1024]⟩ : Shape).Idx → EReal} {ms' : (⟨2, ![n', 8]⟩ : Shape).Idx → EReal} {o : Fin n} {o' : Fin n'}
    (hg : ∀ i, g (ix2 o i) = g' (ix2 o' i)) (hmc : ∀ i, mc (ix2 o i) = mc' (ix2 o' i)) (hms : ∀ b, ms (ix2 o b) = ms' (ix2 o' b))
    (b : Fin 8) : mRow g mc ms o b = mRow g' mc' ms' o' b := by
  funext k; simp only [mRow, hg, hmc, hms]

theorem wRow_congr {n n' : ℕ} {g wc mc : (⟨2, ![n, 1024]⟩ : Shape).Idx → EReal} {ws ms : (⟨2, ![n, 8]⟩ : Shape).Idx → EReal}
    {g' wc' mc' : (⟨2, ![n', 1024]⟩ : Shape).Idx → EReal} {ws' ms' : (⟨2, ![n', 8]⟩ : Shape).Idx → EReal} {o : Fin n} {o' : Fin n'}
    (hg : ∀ i, g (ix2 o i) = g' (ix2 o' i)) (hwc : ∀ i, wc (ix2 o i) = wc' (ix2 o' i)) (hws : ∀ b, ws (ix2 o b) = ws' (ix2 o' b))
    (hmc : ∀ i, mc (ix2 o i) = mc' (ix2 o' i)) (hms : ∀ b, ms (ix2 o b) = ms' (ix2 o' b))
    (b : Fin 8) : wRow g wc ws mc ms o b = wRow g' wc' ws' mc' ms' o' b := by
  funext k; simp only [wRow, hg, hwc, hws, hmc, hms]

section
variable {n : ℕ} (bits : (⟨2, ![n, 1024]⟩ : Shape).Idx → BitVec 32)

/-- The codes of rows given by blocks. -/
def codes (row : Fin n → Fin 8 → Fin 128 → EReal) : (⟨2, ![n, 1024]⟩ : Shape).Idx → EReal := fun i =>
  qCode (row (i 0) (blk (i 1))) (pos (i 1)) (bits i)

/-- Their scales. -/
def scales (row : Fin n → Fin 8 → Fin 128 → EReal) : (⟨2, ![n, 8]⟩ : Shape).Idx → EReal := fun i => qScale (row (i 0) (i 1))
end

end Cert.Proof.Sc

end
-- ==== Proof.KernelBlock.lean ====
/- The four results of a grid point, read at an index: the codes and scales of its 256 rows. -/
module

public import proofs.«01_k».proof.Proof.KernelEls
public import proofs.«01_k».proof.Proof.KernelPieces
public import proofs.«01_k».proof.Proof.Rows
public import Idealize.ShloMosaic.Lib.Pipeline.ValueKit

@[expose] public section

noncomputable section

namespace Cert.Proof.Ker

open Cert.KernelIdeal Cert.KernelIdeal.Gen Idealize.ShloMosaic Idealize.ShloMosaic.TcCoe Idealize.SL.Sem

/-- A column block's load. -/
theorem ld_cols {e : EltTy} (X : S256x1024.Idx → Elt Ideal e) (o b : ℕ) (bb : Fin 8) (hb : b = bb.val) (ho : o = 128 * b)
    (h : ∀ a, (![0, o] : Fin 2 → ℕ) a + S256x128.size a ≤ S256x1024.size a) (r : Fin 256) (k : Fin 128) :
    View.ld X (Rect.unit (s := S256x1024) ![0, o] S256x128.size h) (ix2 r k) = X (ix2 r (Sc.col bb k)) := by
  subst hb ho
  refine View.ld_unit_apply_of _ _ _ _ _ _ fun a => ?_
  match a with
  | ⟨0, _⟩ => show r.val = 0 + r.val; omega
  | ⟨1, _⟩ => show 128 * bb.val + k.val = 128 * bb.val + k.val; rfl

/-- A scale column's load. -/
theorem ld_scale (X : S256x8.Idx → Elt Ideal .f32) (b : ℕ) (bb : Fin 8) (hb : b = bb.val)
    (h : ∀ a, (![0, b] : Fin 2 → ℕ) a + S256x1.size a ≤ S256x8.size a) (r : Fin 256) :
    View.ld X (Rect.unit (s := S256x8) ![0, b] S256x1.size h) (ix2 r (0 : Fin 1)) = X (ix2 r bb) := by
  subst hb
  refine View.ld_unit_apply_of _ _ _ _ _ _ fun a => ?_
  match a with
  | ⟨0, _⟩ => show r.val = 0 + r.val; omega
  | ⟨1, _⟩ => show bb.val = bb.val + 0; omega

section
variable (acc : Vec Ideal S256x1024 .f32) (x2 : Vec Ideal S256x1024 .fp8e4m3) (x3 : Vec Ideal S256x8 .f32)
  (x4 : Vec Ideal S256x1024 .fp8e4m3) (x5 : Vec Ideal S256x8 .f32) (x6 x7 : Vec Ideal S256x1024 .i32)

section
variable (o b : ℕ) (ho : ∀ a, (![0, o] : Fin 2 → ℕ) a + S256x128.size a ≤ S256x1024.size a)
  (hb : ∀ a, (![0, b] : Fin 2 → ℕ) a + S256x1.size a ≤ S256x8.size a) (bb : Fin 8) (eb : b = bb.val) (eo : o = 128 * b)
include eb eo

theorem mBlk_apply (r : Fin 256) (k : Fin 128) : mBlk acc x4 x5 o b ho hb (ix2 r k) = Sc.mRow acc x4 x5 r bb k := by
  rw [mBlk, mNew_apply, ld_cols acc o b bb eb eo, ld_cols x4 o b bb eb eo, ld_scale x5 b bb eb]; rfl

theorem wBlk_apply (r : Fin 256) (k : Fin 128) : wBlk acc x2 x3 x4 x5 o b ho hb (ix2 r k) = Sc.wRow acc x2 x3 x4 x5 r bb k := by
  rw [wBlk, wNew_apply, mNew_apply, ld_cols acc o b bb eb eo, ld_cols x2 o b bb eb eo, ld_cols x4 o b bb eb eo, ld_scale x3 b bb eb,
    ld_scale x5 b bb eb]; rfl

theorem mBlk_row (r : Fin 256) : (fun k => mBlk acc x4 x5 o b ho hb (ix2 r k)) = Sc.mRow acc x4 x5 r bb :=
  funext fun k => mBlk_apply acc x4 x5 o b ho hb bb eb eo r k

theorem wBlk_row (r : Fin 256) : (fun k => wBlk acc x2 x3 x4 x5 o b ho hb (ix2 r k)) = Sc.wRow acc x2 x3 x4 x5 r bb :=
  funext fun k => wBlk_apply acc x2 x3 x4 x5 o b ho hb bb eb eo r k

/-- Where an element of a column block sits. -/
theorem emb_cols (r : Fin 256) (k : Fin 128) :
    (Rect.unit (s := S256x1024) ![0, o] S256x128.size ho).emb (ix2 r k) = ix2 r (Sc.col bb k) := by
  subst eb eo
  funext a; apply Fin.ext
  match a with
  | ⟨0, _⟩ => show 0 + 1 * r.val = r.val; omega
  | ⟨1, _⟩ => show 128 * bb.val + 1 * k.val = 128 * bb.val + k.val; omega

theorem mPiece_at (x : S256x128.Idx) : (mPiece acc x4 x5 o b ho hb x7).2 x
    = Sc.codes x7 (Sc.mRow acc x4 x5) ((mPiece acc x4 x5 o b ho hb x7).1.emb x) := by
  obtain ⟨r, k, rfl⟩ : ∃ (r : Fin 256) (k : Fin 128), x = ix2 r k := ⟨x 0, x 1, eq_ix2 x⟩
  show codesOf (F := Ideal) _ _ (ix2 r k) = Sc.codes x7 (Sc.mRow acc x4 x5) ((Rect.unit (s := S256x1024) ![0, o] S256x128.size ho).emb (ix2 r k))
  rw [codesOf_apply, emb_cols o b ho bb eb eo, mBlk_row acc x4 x5 o b ho hb bb eb eo, ld_cols x7 o b bb eb eo]
  show _ = Sc.qCode (Sc.mRow acc x4 x5 r (Sc.blk (Sc.col bb k))) (Sc.pos (Sc.col bb k)) _
  rw [Sc.blk_col, Sc.pos_col]

theorem wPiece_at (x : S256x128.Idx) : (wPiece acc x2 x3 x4 x5 o b ho hb x6).2 x
    = Sc.codes x6 (Sc.wRow acc x2 x3 x4 x5) ((wPiece acc x2 x3 x4 x5 o b ho hb x6).1.emb x) := by
  obtain ⟨r, k, rfl⟩ : ∃ (r : Fin 256) (k : Fin 128), x = ix2 r k := ⟨x 0, x 1, eq_ix2 x⟩
  show codesOf (F := Ideal) _ _ (ix2 r k) = Sc.codes x6 (Sc.wRow acc x2 x3 x4 x5) ((Rect.unit (s := S256x1024) ![0, o] S256x128.size ho).emb (ix2 r k))
  rw [codesOf_apply, emb_cols o b ho bb eb eo, wBlk_row acc x2 x3 x4 x5 o b ho hb bb eb eo, ld_cols x6 o b bb eb eo]
  show _ = Sc.qCode (Sc.wRow acc x2 x3 x4 x5 r (Sc.blk (Sc.col bb k))) (Sc.pos (Sc.col bb k)) _
  rw [Sc.blk_col, Sc.pos_col]
end

/-- The eight stores of one result. -/
theorem canon_eight (G : S256x1024.Idx → Elt Ideal .fp8e4m3) (p : Fin 8 → View.Piece (Elt Ideal) S256x1024 .fp8e4m3)
    (hG : ∀ b, ∀ x, (p b).2 x = G ((p b).1.emb x))
    (hc : ∀ y, ∃ q ∈ [p 7, p 6, p 5, p 4, p 3, p 2, p 1, p 0], y ∈ q.1.set) :
    View.canon [p 7, p 6, p 5, p 4, p 3, p 2, p 1, p 0] = G := by
  funext y
  refine View.canon_apply_of_pieces G _ ?_ y (hc y)
  intro q hq
  simp only [List.mem_cons, List.not_mem_nil, or_false] at hq
  rcases hq with rfl | rfl | rfl | rfl | rfl | rfl | rfl | rfl <;> exact hG _

/-- The eight scale columns of one result. -/
theorem concat_eight (row : Fin 256 → Fin 8 → Fin 128 → EReal) (v : Fin 8 → FVec Ideal S256x1 .f32)
    (hv : ∀ b r, v b (ix2 r (0 : Fin 1)) = Sc.qScale (row r b)) :
    concatenate S256x8 1 [⟨S256x1, v 0⟩, ⟨S256x1, v 1⟩, ⟨S256x1, v 2⟩, ⟨S256x1, v 3⟩, ⟨S256x1, v 4⟩, ⟨S256x1, v 5⟩, ⟨S256x1, v 6⟩, ⟨S256x1, v 7⟩]
      concatenates_S256x1_S256x1_S256x1_S256x1_S256x1_S256x1_S256x1_S256x1_S256x8_d1 = Sc.scales row := by
  funext j
  obtain ⟨r, b, rfl⟩ : ∃ (r : Fin 256) (b : Fin 8), j = ix2 r b := ⟨j 0, j 1, eq_ix2 j⟩
  refine (concatenate_ofFn_unit_apply (s₁ := S256x1) 1 v
    concatenates_S256x1_S256x1_S256x1_S256x1_S256x1_S256x1_S256x1_S256x1_S256x8_d1 rfl rfl (ix2 r b) b rfl (ix2 r (0 : Fin 1)) ?_).trans (hv b r)
  intro a ha
  match a with
  | ⟨0, _⟩ => rfl
  | ⟨1, _⟩ => exact absurd rfl ha

end

section
variable (c : Dev nD) (i : grid0.Coords) (arg1 : Memref sig .tc .vmem S15360x1024 .bf16) (harg1 : arg1.IsWhole) (arg2 : Memref
  sig .tc .vmem S15360x256 .bf16) (harg2 : arg2.IsWhole) (arg3 : Memref sig .tc .vmem S256x1024 .fp8e4m3) (harg3 :
  arg3.IsWhole) (arg4 : Memref sig .tc .vmem S256x8 .f32) (harg4 : arg4.IsWhole) (arg5 : Memref sig .tc .vmem S256x1024
  .fp8e4m3) (harg5 : arg5.IsWhole) (arg6 : Memref sig .tc .vmem S256x8 .f32) (harg6 : arg6.IsWhole) (arg7 : Memref sig
  .tc .vmem S256x1024 .i32) (harg7 : arg7.IsWhole) (arg8 : Memref sig .tc .vmem S256x1024 .i32) (harg8 : arg8.IsWhole)
  (arg9 : Memref sig .tc .vmem S256x1024 .fp8e4m3) (harg9 : arg9.IsWhole) (arg10 : Memref sig .tc .vmem S256x8 .f32)
  (harg10 : arg10.IsWhole) (arg11 : Memref sig .tc .vmem S256x1024 .fp8e4m3) (harg11 : arg11.IsWhole) (arg12 : Memref
  sig .tc .vmem S256x8 .f32) (harg12 : arg12.IsWhole) (arg13 : Memref sig .tc .vmem S256x1024 .f32) (harg13 :
  arg13.IsWhole)
  (x0 : Vec Ideal S15360x1024 .bf16) (x1 : Vec Ideal S15360x256 .bf16) (x2 : Vec Ideal S256x1024 .fp8e4m3) (x3 : Vec Ideal S256x8 .f32)
  (x4 : Vec Ideal S256x1024 .fp8e4m3) (x5 : Vec Ideal S256x8 .f32) (x6 : Vec Ideal S256x1024 .i32) (x7 : Vec Ideal S256x1024 .i32)

/-- The offset fact of column block `b`. -/
theorem inb_cols (b : Fin 8) (a) : (![0, 128 * b.val] : Fin 2 → ℕ) a + S256x128.size a ≤ S256x1024.size a := by
  have := b.isLt
  match a with
  | ⟨0, _⟩ => show 0 + 256 ≤ 256; omega
  | ⟨1, _⟩ => show 128 * b.val + 128 ≤ 1024; omega

/-- The offset fact of scale column `b`. -/
theorem inb_scale (b : Fin 8) (a) : (![0, b.val] : Fin 2 → ℕ) a + S256x1.size a ≤ S256x8.size a := by
  have := b.isLt
  match a with
  | ⟨0, _⟩ => show 0 + 256 ≤ 256; omega
  | ⟨1, _⟩ => show b.val + 1 ≤ 8; omega

theorem block_8 : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = Sc.codes x6 (Sc.wRow (acc x0 x1) x2 x3 x4 x5) := by
  rw [out_8]
  refine canon_eight _ (fun b => wPiece (acc x0 x1) x2 x3 x4 x5 (128 * b.val) b.val (inb_cols b) (inb_scale b) x6)
    (fun b => wPiece_at (acc x0 x1) x2 x3 x4 x5 x6 _ _ (inb_cols b) (inb_scale b) b rfl rfl) fun y => ?_
  exact View.cover_of_tiled_head _ _ _ rfl y

theorem block_10 : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = Sc.codes x7 (Sc.mRow (acc x0 x1) x4 x5) := by
  rw [out_10]
  refine canon_eight _ (fun b => mPiece (acc x0 x1) x4 x5 (128 * b.val) b.val (inb_cols b) (inb_scale b) x7)
    (fun b => mPiece_at (acc x0 x1) x4 x5 x7 _ _ (inb_cols b) (inb_scale b) b rfl rfl) fun y => ?_
  exact View.cover_of_tiled_head _ _ _ rfl y

theorem block_9 : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = Sc.scales (Sc.wRow (acc x0 x1) x2 x3 x4 x5) := by
  rw [out_9]
  exact concat_eight _ (fun b => scaleOf (wBlk (acc x0 x1) x2 x3 x4 x5 (128 * b.val) b.val (inb_cols b) (inb_scale b))) fun b r => by
    rw [scaleOf_apply, wBlk_row (acc x0 x1) x2 x3 x4 x5 _ _ (inb_cols b) (inb_scale b) b rfl rfl]

theorem block_11 : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = Sc.scales (Sc.mRow (acc x0 x1) x4 x5) := by
  rw [out_11]
  exact concat_eight _ (fun b => scaleOf (mBlk (acc x0 x1) x4 x5 (128 * b.val) b.val (inb_cols b) (inb_scale b))) fun b r => by
    rw [scaleOf_apply, mBlk_row (acc x0 x1) x4 x5 _ _ (inb_cols b) (inb_scale b) b rfl rfl]
end

end Cert.Proof.Ker

end
-- ==== Proof.KernelArrays.lean ====
/- What the kernel's run leaves in its four results, over whole arrays: the codes and scales of every row. -/
module

public import proofs.«01_k».proof.Proof.KernelBlock
public import proofs.«01_k».proof.Proof.Gen.KernelIdeal.Value

@[expose] public section

noncomputable section

namespace Cert.Proof.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of a grid point, at an index: the sum over the tokens. -/
theorem acc_apply (x0 : Vec Ideal S15360x1024 .bf16) (x1 : Vec Ideal S15360x256 .bf16) (r : Fin 256) (i : Fin 1024) :
    acc x0 x1 (ix2 r i) = ∑ k : Fin 15360, x1 (ix2 k r) * x0 (ix2 k i) := by
  pointwise [acc]

/-- The product over whole arrays. -/
def total (x : Vec Ideal S15360x1024 .bf16) (dy : Vec Ideal S15360x2816 .bf16) : S2816x1024.Idx → EReal := fun j =>
  ∑ k : Fin 15360, dy (ix2 k (j 0)) * x (ix2 k (j 1))

/-- Row `r` of grid point `t`. -/
def row (t : Fin cfg0.N) (r : Fin 256) : Fin 2816 :=
  ⟨256 * t.val + r.val, by have ht : t.val < 11 := t.isLt; have hr := r.isLt; omega⟩

/-! An index of a window's block in its array. -/

theorem index_0 : ∀ t : Fin cfg0.N, win0_0.index t 0 = 0 ∧ win0_0.index t 1 = 0 :=
  (by decide +kernel : ∀ t : Fin grid0.N, win0_0.index t 0 = 0 ∧ win0_0.index t 1 = 0)

theorem index_1 : ∀ t : Fin cfg0.N, win0_1.index t 0 = 0 ∧ win0_1.index t 1 = t.val :=
  (by decide +kernel : ∀ t : Fin grid0.N, win0_1.index t 0 = 0 ∧ win0_1.index t 1 = t.val)

theorem index_2 : ∀ t : Fin cfg0.N, win0_2.index t 0 = t.val ∧ win0_2.index t 1 = 0 :=
  (by decide +kernel : ∀ t : Fin grid0.N, win0_2.index t 0 = t.val ∧ win0_2.index t 1 = 0)

theorem index_3 : ∀ t : Fin cfg0.N, win0_3.index t 0 = t.val ∧ win0_3.index t 1 = 0 :=
  (by decide +kernel : ∀ t : Fin grid0.N, win0_3.index t 0 = t.val ∧ win0_3.index t 1 = 0)

theorem index_4 : ∀ t : Fin cfg0.N, win0_4.index t 0 = t.val ∧ win0_4.index t 1 = 0 :=
  (by decide +kernel : ∀ t : Fin grid0.N, win0_4.index t 0 = t.val ∧ win0_4.index t 1 = 0)

theorem index_5 : ∀ t : Fin cfg0.N, win0_5.index t 0 = t.val ∧ win0_5.index t 1 = 0 :=
  (by decide +kernel : ∀ t : Fin grid0.N, win0_5.index t 0 = t.val ∧ win0_5.index t 1 = 0)

theorem index_6 : ∀ t : Fin cfg0.N, win0_6.index t 0 = t.val ∧ win0_6.index t 1 = 0 :=
  (by decide +kernel : ∀ t : Fin grid0.N, win0_6.index t 0 = t.val ∧ win0_6.index t 1 = 0)

theorem index_7 : ∀ t : Fin cfg0.N, win0_7.index t 0 = t.val ∧ win0_7.index t 1 = 0 :=
  (by decide +kernel : ∀ t : Fin grid0.N, win0_7.index t 0 = t.val ∧ win0_7.index t 1 = 0)

theorem index_8 : ∀ t : Fin cfg0.N, win0_8.index t 0 = t.val ∧ win0_8.index t 1 = 0 :=
  (by decide +kernel : ∀ t : Fin grid0.N, win0_8.index t 0 = t.val ∧ win0_8.index t 1 = 0)

theorem index_9 : ∀ t : Fin cfg0.N, win0_9.index t 0 = t.val ∧ win0_9.index t 1 = 0 :=
  (by decide +kernel : ∀ t : Fin grid0.N, win0_9.index t 0 = t.val ∧ win0_9.index t 1 = 0)

theorem index_10 : ∀ t : Fin cfg0.N, win0_10.index t 0 = t.val ∧ win0_10.index t 1 = 0 :=
  (by decide +kernel : ∀ t : Fin grid0.N, win0_10.index t 0 = t.val ∧ win0_10.index t 1 = 0)

theorem index_11 : ∀ t : Fin cfg0.N, win0_11.index t 0 = t.val ∧ win0_11.index t 1 = 0 :=
  (by decide +kernel : ∀ t : Fin grid0.N, win0_11.index t 0 = t.val ∧ win0_11.index t 1 = 0)

theorem emb_0 (t : Fin cfg0.N) (j : S15360x1024.Idx) : ((cfg0.win 0).blk t).view.emb j = j := by
  funext a; apply Fin.ext
  match a with
  | ⟨0, _⟩ => show win0_0.index t 0 * 15360 + 1 * (j 0).val = (j 0).val; rw [(index_0 t).1]; omega
  | ⟨1, _⟩ => show win0_0.index t 1 * 1024 + 1 * (j 1).val = (j 1).val; rw [(index_0 t).2]; omega

theorem emb_1 (t : Fin cfg0.N) (k : Fin 15360) (r : Fin 256) : ((cfg0.win 1).blk t).view.emb (ix2 k r : S15360x256.Idx) = ix2 k (row t r) := by
  funext a; apply Fin.ext
  match a with
  | ⟨0, _⟩ => show win0_1.index t 0 * 15360 + 1 * k.val = k.val; rw [(index_1 t).1]; omega
  | ⟨1, _⟩ => show win0_1.index t 1 * 256 + 1 * r.val = 256 * t.val + r.val; rw [(index_1 t).2]; omega

theorem emb_2 (t : Fin cfg0.N) (r : Fin 256) (k : Fin 1024) : ((cfg0.win 2).blk t).view.emb (ix2 r k : S256x1024.Idx) = ix2 (row t r) k := by
  funext a; apply Fin.ext
  match a with
  | ⟨0, _⟩ => show win0_2.index t 0 * 256 + 1 * r.val = 256 * t.val + r.val; rw [(index_2 t).1]; omega
  | ⟨1, _⟩ => show win0_2.index t 1 * 1024 + 1 * k.val = k.val; rw [(index_2 t).2]; omega

theorem emb_3 (t : Fin cfg0.N) (r : Fin 256) (k : Fin 8) : ((cfg0.win 3).blk t).view.emb (ix2 r k : S256x8.Idx) = ix2 (row t r) k := by
  funext a; apply Fin.ext
  match a with
  | ⟨0, _⟩ => show win0_3.index t 0 * 256 + 1 * r.val = 256 * t.val + r.val; rw [(index_3 t).1]; omega
  | ⟨1, _⟩ => show win0_3.index t 1 * 8 + 1 * k.val = k.val; rw [(index_3 t).2]; omega

theorem emb_4 (t : Fin cfg0.N) (r : Fin 256) (k : Fin 1024) : ((cfg0.win 4).blk t).view.emb (ix2 r k : S256x1024.Idx) = ix2 (row t r) k := by
  funext a; apply Fin.ext
  match a with
  | ⟨0, _⟩ => show win0_4.index t 0 * 256 + 1 * r.val = 256 * t.val + r.val; rw [(index_4 t).1]; omega
  | ⟨1, _⟩ => show win0_4.index t 1 * 1024 + 1 * k.val = k.val; rw [(index_4 t).2]; omega

theorem emb_5 (t : Fin cfg0.N) (r : Fin 256) (k : Fin 8) : ((cfg0.win 5).blk t).view.emb (ix2 r k : S256x8.Idx) = ix2 (row t r) k := by
  funext a; apply Fin.ext
  match a with
  | ⟨0, _⟩ => show win0_5.index t 0 * 256 + 1 * r.val = 256 * t.val + r.val; rw [(index_5 t).1]; omega
  | ⟨1, _⟩ => show win0_5.index t 1 * 8 + 1 * k.val = k.val; rw [(index_5 t).2]; omega

theorem emb_6 (t : Fin cfg0.N) (r : Fin 256) (k : Fin 1024) : ((cfg0.win 6).blk t).view.emb (ix2 r k : S256x1024.Idx) = ix2 (row t r) k := by
  funext a; apply Fin.ext
  match a with
  | ⟨0, _⟩ => show win0_6.index t 0 * 256 + 1 * r.val = 256 * t.val + r.val; rw [(index_6 t).1]; omega
  | ⟨1, _⟩ => show win0_6.index t 1 * 1024 + 1 * k.val = k.val; rw [(index_6 t).2]; omega

theorem emb_7 (t : Fin cfg0.N) (r : Fin 256) (k : Fin 1024) : ((cfg0.win 7).blk t).view.emb (ix2 r k : S256x1024.Idx) = ix2 (row t r) k := by
  funext a; apply Fin.ext
  match a with
  | ⟨0, _⟩ => show win0_7.index t 0 * 256 + 1 * r.val = 256 * t.val + r.val; rw [(index_7 t).1]; omega
  | ⟨1, _⟩ => show win0_7.index t 1 * 1024 + 1 * k.val = k.val; rw [(index_7 t).2]; omega

theorem emb_8 (t : Fin cfg0.N) (r : Fin 256) (k : Fin 1024) : ((cfg0.win 8).blk t).view.emb (ix2 r k : S256x1024.Idx) = ix2 (row t r) k := by
  funext a; apply Fin.ext
  match a with
  | ⟨0, _⟩ => show win0_8.index t 0 * 256 + 1 * r.val = 256 * t.val + r.val; rw [(index_8 t).1]; omega
  | ⟨1, _⟩ => show win0_8.index t 1 * 1024 + 1 * k.val = k.val; rw [(index_8 t).2]; omega

theorem emb_9 (t : Fin cfg0.N) (r : Fin 256) (k : Fin 8) : ((cfg0.win 9).blk t).view.emb (ix2 r k : S256x8.Idx) = ix2 (row t r) k := by
  funext a; apply Fin.ext
  match a with
  | ⟨0, _⟩ => show win0_9.index t 0 * 256 + 1 * r.val = 256 * t.val + r.val; rw [(index_9 t).1]; omega
  | ⟨1, _⟩ => show win0_9.index t 1 * 8 + 1 * k.val = k.val; rw [(index_9 t).2]; omega

theorem emb_10 (t : Fin cfg0.N) (r : Fin 256) (k : Fin 1024) : ((cfg0.win 10).blk t).view.emb (ix2 r k : S256x1024.Idx) = ix2 (row t r) k := by
  funext a; apply Fin.ext
  match a with
  | ⟨0, _⟩ => show win0_10.index t 0 * 256 + 1 * r.val = 256 * t.val + r.val; rw [(index_10 t).1]; omega
  | ⟨1, _⟩ => show win0_10.index t 1 * 1024 + 1 * k.val = k.val; rw [(index_10 t).2]; omega

theorem emb_11 (t : Fin cfg0.N) (r : Fin 256) (k : Fin 8) : ((cfg0.win 11).blk t).view.emb (ix2 r k : S256x8.Idx) = ix2 (row t r) k := by
  funext a; apply Fin.ext
  match a with
  | ⟨0, _⟩ => show win0_11.index t 0 * 256 + 1 * r.val = 256 * t.val + r.val; rw [(index_11 t).1]; omega
  | ⟨1, _⟩ => show win0_11.index t 1 * 8 + 1 * k.val = k.val; rw [(index_11 t).2]; omega

/-! A grid point's blocks of the inputs, at an index. -/

theorem iblk_0 (c : Dev nD) (t : Fin cfg0.N) : iblk m c 0 t = V m c main_v0 := by
  funext j; show V m c main_v0 (((cfg0.win 0).blk t).view.emb j) = V m c main_v0 j; rw [emb_0]

theorem iblk_1 (c : Dev nD) (t : Fin cfg0.N) (k : Fin 15360) (r : Fin 256) :
    (iblk m c 1 t : Vec Ideal S15360x256 .bf16) (ix2 k r) = (V m c main_v1 : Vec Ideal S15360x2816 .bf16) (ix2 k (row t r)) := by
  show V m c main_v1 (((cfg0.win 1).blk t).view.emb (ix2 k r : S15360x256.Idx)) = _; rw [emb_1]

theorem iblk_2 (c : Dev nD) (t : Fin cfg0.N) (r : Fin 256) (k : Fin 1024) :
    (iblk m c 2 t : Vec Ideal S256x1024 .fp8e4m3) (ix2 r k) = (V m c main_arg2 : Vec Ideal S2816x1024 .fp8e4m3) (ix2 (row t r) k) := by
  show V m c main_arg2 (((cfg0.win 2).blk t).view.emb (ix2 r k : S256x1024.Idx)) = _; rw [emb_2]

theorem iblk_3 (c : Dev nD) (t : Fin cfg0.N) (r : Fin 256) (k : Fin 8) :
    (iblk m c 3 t : Vec Ideal S256x8 .f32) (ix2 r k) = (V m c main_arg3 : Vec Ideal S2816x8 .f32) (ix2 (row t r) k) := by
  show V m c main_arg3 (((cfg0.win 3).blk t).view.emb (ix2 r k : S256x8.Idx)) = _; rw [emb_3]

theorem iblk_4 (c : Dev nD) (t : Fin cfg0.N) (r : Fin 256) (k : Fin 1024) :
    (iblk m c 4 t : Vec Ideal S256x1024 .fp8e4m3) (ix2 r k) = (V m c main_arg4 : Vec Ideal S2816x1024 .fp8e4m3) (ix2 (row t r) k) := by
  show V m c main_arg4 (((cfg0.win 4).blk t).view.emb (ix2 r k : S256x1024.Idx)) = _; rw [emb_4]

theorem iblk_5 (c : Dev nD) (t : Fin cfg0.N) (r : Fin 256) (k : Fin 8) :
    (iblk m c 5 t : Vec Ideal S256x8 .f32) (ix2 r k) = (V m c main_arg5 : Vec Ideal S2816x8 .f32) (ix2 (row t r) k) := by
  show V m c main_arg5 (((cfg0.win 5).blk t).view.emb (ix2 r k : S256x8.Idx)) = _; rw [emb_5]

theorem iblk_6 (c : Dev nD) (t : Fin cfg0.N) (r : Fin 256) (k : Fin 1024) :
    (iblk m c 6 t : Vec Ideal S256x1024 .i32) (ix2 r k) = (V m c main_arg6 : Vec Ideal S2816x1024 .i32) (ix2 (row t r) k) := by
  show V m c main_arg6 (((cfg0.win 6).blk t).view.emb (ix2 r k : S256x1024.Idx)) = _; rw [emb_6]

theorem iblk_7 (c : Dev nD) (t : Fin cfg0.N) (r : Fin 256) (k : Fin 1024) :
    (iblk m c 7 t : Vec Ideal S256x1024 .i32) (ix2 r k) = (V m c main_arg7 : Vec Ideal S2816x1024 .i32) (ix2 (row t r) k) := by
  show V m c main_arg7 (((cfg0.win 7).blk t).view.emb (ix2 r k : S256x1024.Idx)) = _; rw [emb_7]

/-- A grid point's product is its rows of the whole one. -/
theorem acc_row (c : Dev nD) (t : Fin cfg0.N) (r : Fin 256) (i : Fin 1024) :
    acc (iblk m c 0 t) (iblk m c 1 t) (ix2 r i) = total (V m c main_v0) (V m c main_v1) (ix2 (row t r) i) := by
  rw [acc_apply, iblk_0]
  exact Finset.sum_congr rfl fun k _ => by rw [iblk_1]; rfl

/-- The new momentum by rows and blocks. -/
def mRows (c : Dev nD) : Fin 2816 → Fin 8 → Fin 128 → EReal :=
  Sc.mRow (total (V m c main_v0) (V m c main_v1)) (V m c main_arg4) (V m c main_arg5)

/-- The new weight by rows and blocks. -/
def wRows (c : Dev nD) : Fin 2816 → Fin 8 → Fin 128 → EReal :=
  Sc.wRow (total (V m c main_v0) (V m c main_v1)) (V m c main_arg2) (V m c main_arg3) (V m c main_arg4) (V m c main_arg5)

theorem mRow_row (c : Dev nD) (t : Fin cfg0.N) (r : Fin 256) (b : Fin 8) :
    Sc.mRow (acc (iblk m c 0 t) (iblk m c 1 t)) (iblk m c 4 t) (iblk m c 5 t) r b = mRows m c (row t r) b :=
  Sc.mRow_congr (acc_row m c t r) (iblk_4 m c t r) (iblk_5 m c t r) b

theorem wRow_row (c : Dev nD) (t : Fin cfg0.N) (r : Fin 256) (b : Fin 8) :
    Sc.wRow (acc (iblk m c 0 t) (iblk m c 1 t)) (iblk m c 2 t) (iblk m c 3 t) (iblk m c 4 t) (iblk m c 5 t) r b = wRows m c (row t r) b :=
  Sc.wRow_congr (acc_row m c t r) (iblk_2 m c t r) (iblk_3 m c t r) (iblk_4 m c t r) (iblk_5 m c t r) b

/-- The grid point of a row. -/
def pt (o : Fin 2816) : Fin cfg0.N := ⟨o.val / 256, show o.val / 256 < 11 by have := o.isLt; omega⟩

theorem row_pt (o : Fin 2816) : row (pt o) ⟨o.val % 256, by omega⟩ = o := Fin.ext (Nat.div_add_mod o.val 256)

/-! Each result's array after the run. -/

theorem flush_8 : ∀ t : Fin cfg0.N, (cfg0.win 8).flush t = true :=
  (by decide +kernel : ∀ t : Fin grid0.N, win0_8.flush t = true)

theorem flushed_8 (c : Dev nD) (t : Fin cfg0.N) : (dats m 0 c).flushed 8 t = ((cfg0.win 8).blk t).view.read (Elt Ideal) (Sc.codes (V m c main_arg6) (wRows m c)) := by
  rw [Value.flushed8_A, block_8]
  funext j
  obtain ⟨r, k, rfl⟩ : ∃ (r : Fin 256) (k : Fin 1024), j = (ix2 r k : S256x1024.Idx) := ⟨j 0, j 1, eq_ix2 (n0 := 256) (n1 := 1024) j⟩
  show _ = (Sc.codes (V m c main_arg6) (wRows m c)) (((cfg0.win 8).blk t).view.emb (ix2 r k : S256x1024.Idx))
  rw [emb_8]
  show Sc.qCode (Sc.wRow _ _ _ _ _ r (Sc.blk k)) (Sc.pos k) ((iblk m c 6 t : Vec Ideal S256x1024 .i32) (ix2 r k)) = _
  rw [wRow_row, iblk_6]; rfl

theorem final_8 (c : Dev nD) : (dats m 0 c).arrAt 8 cfg0.N = Sc.codes (V m c main_arg6) (wRows m c) :=
  (dats m 0 c).arrAt_eq_of_cover 8 _ (fun t _ => flushed_8 m c t) fun i => by
    obtain ⟨o, k, rfl⟩ : ∃ (o : Fin 2816) (k : Fin 1024), i = (ix2 o k : S2816x1024.Idx) := ⟨i 0, i 1, eq_ix2 (n0 := 2816) (n1 := 1024) i⟩
    refine ⟨pt o, flush_8 _, ?_⟩
    have h := ((cfg0.win 8).blk (pt o)).view.emb_mem_set (ix2 (⟨o.val % 256, by omega⟩ : Fin 256) k : S256x1024.Idx)
    rwa [emb_8, row_pt] at h

theorem flush_9 : ∀ t : Fin cfg0.N, (cfg0.win 9).flush t = true :=
  (by decide +kernel : ∀ t : Fin grid0.N, win0_9.flush t = true)

theorem flushed_9 (c : Dev nD) (t : Fin cfg0.N) : (dats m 0 c).flushed 9 t = ((cfg0.win 9).blk t).view.read (Elt Ideal) (Sc.scales (wRows m c)) := by
  rw [Value.flushed9_A, block_9]
  funext j
  obtain ⟨r, k, rfl⟩ : ∃ (r : Fin 256) (k : Fin 8), j = (ix2 r k : S256x8.Idx) := ⟨j 0, j 1, eq_ix2 (n0 := 256) (n1 := 8) j⟩
  show _ = (Sc.scales (wRows m c)) (((cfg0.win 9).blk t).view.emb (ix2 r k : S256x8.Idx))
  rw [emb_9]
  show Sc.qScale (Sc.wRow _ _ _ _ _ r k) = _
  rw [wRow_row]; rfl

theorem final_9 (c : Dev nD) : (dats m 0 c).arrAt 9 cfg0.N = Sc.scales (wRows m c) :=
  (dats m 0 c).arrAt_eq_of_cover 9 _ (fun t _ => flushed_9 m c t) fun i => by
    obtain ⟨o, k, rfl⟩ : ∃ (o : Fin 2816) (k : Fin 8), i = (ix2 o k : S2816x8.Idx) := ⟨i 0, i 1, eq_ix2 (n0 := 2816) (n1 := 8) i⟩
    refine ⟨pt o, flush_9 _, ?_⟩
    have h := ((cfg0.win 9).blk (pt o)).view.emb_mem_set (ix2 (⟨o.val % 256, by omega⟩ : Fin 256) k : S256x8.Idx)
    rwa [emb_9, row_pt] at h

theorem flush_10 : ∀ t : Fin cfg0.N, (cfg0.win 10).flush t = true :=
  (by decide +kernel : ∀ t : Fin grid0.N, win0_10.flush t = true)

theorem flushed_10 (c : Dev nD) (t : Fin cfg0.N) : (dats m 0 c).flushed 10 t = ((cfg0.win 10).blk t).view.read (Elt Ideal) (Sc.codes (V m c main_arg7) (mRows m c)) := by
  rw [Value.flushed10_A, block_10]
  funext j
  obtain ⟨r, k, rfl⟩ : ∃ (r : Fin 256) (k : Fin 1024), j = (ix2 r k : S256x1024.Idx) := ⟨j 0, j 1, eq_ix2 (n0 := 256) (n1 := 1024) j⟩
  show _ = (Sc.codes (V m c main_arg7) (mRows m c)) (((cfg0.win 10).blk t).view.emb (ix2 r k : S256x1024.Idx))
  rw [emb_10]
  show Sc.qCode (Sc.mRow _ _ _ r (Sc.blk k)) (Sc.pos k) ((iblk m c 7 t : Vec Ideal S256x1024 .i32) (ix2 r k)) = _
  rw [mRow_row, iblk_7]; rfl

theorem final_10 (c : Dev nD) : (dats m 0 c).arrAt 10 cfg0.N = Sc.codes (V m c main_arg7) (mRows m c) :=
  (dats m 0 c).arrAt_eq_of_cover 10 _ (fun t _ => flushed_10 m c t) fun i => by
    obtain ⟨o, k, rfl⟩ : ∃ (o : Fin 2816) (k : Fin 1024), i = (ix2 o k : S2816x1024.Idx) := ⟨i 0, i 1, eq_ix2 (n0 := 2816) (n1 := 1024) i⟩
    refine ⟨pt o, flush_10 _, ?_⟩
    have h := ((cfg0.win 10).blk (pt o)).view.emb_mem_set (ix2 (⟨o.val % 256, by omega⟩ : Fin 256) k : S256x1024.Idx)
    rwa [emb_10, row_pt] at h

theorem flush_11 : ∀ t : Fin cfg0.N, (cfg0.win 11).flush t = true :=
  (by decide +kernel : ∀ t : Fin grid0.N, win0_11.flush t = true)

theorem flushed_11 (c : Dev nD) (t : Fin cfg0.N) : (dats m 0 c).flushed 11 t = ((cfg0.win 11).blk t).view.read (Elt Ideal) (Sc.scales (mRows m c)) := by
  rw [Value.flushed11_A, block_11]
  funext j
  obtain ⟨r, k, rfl⟩ : ∃ (r : Fin 256) (k : Fin 8), j = (ix2 r k : S256x8.Idx) := ⟨j 0, j 1, eq_ix2 (n0 := 256) (n1 := 8) j⟩
  show _ = (Sc.scales (mRows m c)) (((cfg0.win 11).blk t).view.emb (ix2 r k : S256x8.Idx))
  rw [emb_11]
  show Sc.qScale (Sc.mRow _ _ _ r k) = _
  rw [mRow_row]; rfl

theorem final_11 (c : Dev nD) : (dats m 0 c).arrAt 11 cfg0.N = Sc.scales (mRows m c) :=
  (dats m 0 c).arrAt_eq_of_cover 11 _ (fun t _ => flushed_11 m c t) fun i => by
    obtain ⟨o, k, rfl⟩ : ∃ (o : Fin 2816) (k : Fin 8), i = (ix2 o k : S2816x8.Idx) := ⟨i 0, i 1, eq_ix2 (n0 := 2816) (n1 := 8) i⟩
    refine ⟨pt o, flush_11 _, ?_⟩
    have h := ((cfg0.win 11).blk (pt o)).view.emb_mem_set (ix2 (⟨o.val % 256, by omega⟩ : Fin 256) k : S256x8.Idx)
    rwa [emb_11, row_pt] at h

end Cert.Proof.Ker

end
-- ==== Proof.RefBody.lean ====
/- The reference's body as functions of arrays: the quantiser, for arrays of 8 blocks of 128 a row, and the four results through it. -/
module

public import proofs.«01_k».proof.Proof.Gen.ReferenceIdeal.Frame
public import Idealize.ShloMosaic.Lib.Pipeline.ValueKit

@[expose] public section

noncomputable section

namespace Cert.Proof.Ref

open Cert.ReferenceIdeal Cert.ReferenceIdeal.Gen Idealize.ShloMosaic Idealize.ShloMosaic.TcCoe Idealize.SL.Sem
open Idealize.ShloMosaic.Tactic

variable {F : FTy → Type} [FloatOps F] [Named F]

/-- The floor of the logarithm to base 2, plus one. -/
def expPlus {s : Shape} (x : FVec F s .f32) : FVec F s .f32 :=
  addf (floor (divf (log x) (broadcast s (Named.named κ "ln2" 0x3F317218#32)))) (broadcast s (Scalar.ofBits .f32 0x3F800000#32))

/-- Each block's largest magnitude over 448. -/
def topOf (val : FVec F S2816x8x128 .f32) : FVec F S2816x8 .f32 :=
  mulf (multiReduction .maximumf [2] S2816x8 (absf val) 0xFF800000#32 reduces_S2816x8x128_S2816x8 (.inl rfl) rfl)
    (broadcast S2816x8 (Scalar.ofBits .f32 0x3B124925#32))

/-- The exponent of a block's scale. -/
def expOf (x : FVec F S2816x8 .f32) : FVec F S2816x8 .f32 :=
  select (cmpf .olt x (broadcast S2816x8 (Scalar.ofBits .f32 0x00800000#32))) (broadcast S2816x8 (Scalar.ofBits .f32 0x00000000#32)) (expPlus x)

/-- The scale for that largest magnitude. -/
def scaleAt (x : FVec F S2816x8 .f32) : FVec F S2816x8 .f32 :=
  select (cmpf .olt x (broadcast S2816x8 (Scalar.ofBits .f32 0x7F000000#32))) (exp2 (expOf x))
    (select (cmpf .olt x (broadcast S2816x8 (Scalar.ofBits .f32 0x7F800000#32))) (broadcast S2816x8 (Scalar.ofBits .f32 0x7F800000#32))
      (broadcast S2816x8 (Scalar.ofBits .f32 0x00000000#32)))

/-- Its inverse. -/
def invAt (x : FVec F S2816x8 .f32) : FVec F S2816x8 .f32 :=
  select (cmpf .olt x (broadcast S2816x8 (Scalar.ofBits .f32 0x7F000000#32)))
    (select (cmpf .olt x (broadcast S2816x8 (Scalar.ofBits .f32 0x7E800000#32)))
      (exp2 (subf (broadcast S2816x8 (Scalar.ofBits .f32 0x00000000#32)) (expOf x))) (broadcast S2816x8 (Scalar.ofBits .f32 0x00000000#32)))
    (select (cmpf .olt x (broadcast S2816x8 (Scalar.ofBits .f32 0x7F800000#32))) (broadcast S2816x8 (Scalar.ofBits .f32 0xFF800000#32))
      (broadcast S2816x8 (Scalar.ofBits .f32 0xFF000000#32)))

/-- The clip to the codes' range. -/
def clipTo (x : FVec F S2816x8x128 .f32) : FVec F S2816x8x128 .f32 :=
  minimumf (broadcast S2816x8x128 (Scalar.ofBits .f32 0x43E00000#32)) (maximumf (broadcast S2816x8x128 (Scalar.ofBits .f32 0xC3E00000#32)) x)

/-- The scaled and clipped blocks. -/
def clipOf (val : FVec F S2816x8x128 .f32) : FVec F S2816x8x128 .f32 :=
  clipTo (mulf val (broadcastTo S2816x8x128 (shapeCast S2816x8x1 (invAt (topOf val)) shapeCasts_S2816x8_S2816x8x1)
    broadcasts_S2816x8x1_S2816x8x128))

/-- The exponent of the code spacing. -/
def spacing (v : FVec F S2816x8x128 .f32) : FVec F S2816x8x128 .f32 :=
  subf (maximumf (expPlus (absf v)) (broadcast S2816x8x128 (Scalar.ofBits .f32 0xC0A00000#32))) (broadcast S2816x8x128 (Scalar.ofBits .f32 0x40800000#32))

/-- The magnitude's multiple of the code spacing, not rounded. -/
def quot (v : FVec F S2816x8x128 .f32) : FVec F S2816x8x128 .f32 :=
  mulf (absf v) (exp2 (subf (broadcast S2816x8x128 (Scalar.ofBits .f32 0x00000000#32)) (spacing v)))

/-- The rounded magnitude. -/
def magOf (v u : FVec F S2816x8x128 .f32) : FVec F S2816x8x128 .f32 :=
  mulf (addf (floor (quot v)) (select (cmpf .olt u (subf (quot v) (floor (quot v)))) (broadcast S2816x8x128 (Scalar.ofBits .f32 0x3F800000#32))
    (broadcast S2816x8x128 (Scalar.ofBits .f32 0x00000000#32)))) (exp2 (spacing v))

/-- The sign. -/
def signOf (v : FVec F S2816x8x128 .f32) : FVec F S2816x8x128 .f32 :=
  select (cmpf .ogt (absf v) (broadcast S2816x8x128 (Scalar.ofBits .f32 0x00000000#32)))
    (select (cmpf .olt v (constant S2816x8x128 .f32 0x00000000#32)) (constant S2816x8x128 .f32 0xBF800000#32) (constant S2816x8x128 .f32 0x3F800000#32)) v

/-- The codes of scaled and clipped blocks. -/
def codesAt (v u : FVec F S2816x8x128 .f32) : FVec F S2816x8x128 .f32 := clipTo (mulf (signOf v) (magOf v u))

/-- The codes of blocks, a row of blocks flattened. -/
def codesOf (val u : FVec F S2816x8x128 .f32) : FVec F S2816x1024 .fp8e4m3 :=
  shapeCast S2816x1024 (truncf .fp8e4m3 (codesAt (clipOf val) u) bitsLt_fp8e4m3_f32) shapeCasts_S2816x8x128_S2816x1024

section
variable (x0 : Vec F S2816x8x128 .f32) (x1 : Vec F S2816x8x128 .fp8e4m3) (x2 : Vec F S2816x8 .f32) (x3 : Vec F S2816x8x128 .fp8e4m3)
  (x4 : Vec F S2816x8 .f32) (x5 x6 : Vec F S2816x8x128 .f32)

theorem ld_blocks {e : EltTy} (X : Vec F S2816x8x128 e) : View.ld X r0_0 = X := by
  funext j
  refine View.ld_unit_apply_of _ _ _ _ _ _ fun a => ?_
  match a with
  | ⟨0, _⟩ => show (j 0).val = 0 + (j 0).val; omega
  | ⟨1, _⟩ => show (j 1).val = 0 + (j 1).val; omega
  | ⟨2, _⟩ => show (j 2).val = 0 + (j 2).val; omega

theorem ld_scales (X : Vec F S2816x8 .f32) : View.ld X r0_1 = X := by
  funext j
  refine View.ld_unit_apply_of _ _ _ _ _ _ fun a => ?_
  match a with
  | ⟨0, _⟩ => show (j 0).val = 0 + (j 0).val; omega
  | ⟨1, _⟩ => show (j 1).val = 0 + (j 1).val; omega

theorem canon_codes (X : FVec F S2816x1024 .fp8e4m3) : View.canon ([⟨r0_2, X⟩] : List (View.Piece (Elt F) S2816x1024 .fp8e4m3)) = (X : Vec F S2816x1024 .fp8e4m3) := by
  have e (x : S2816x1024.Idx) : r0_2.emb x = x := by
    funext a; apply Fin.ext
    match a with
    | ⟨0, _⟩ => show 0 + 1 * (x 0).val = (x 0).val; omega
    | ⟨1, _⟩ => show 0 + 1 * (x 1).val = (x 1).val; omega
  funext y
  refine View.canon_apply_of_pieces (Val := Elt F) (e := .fp8e4m3) X _ (fun p hp x => ?_) y ?_
  · rw [List.mem_singleton] at hp; subst hp; exact (congrArg X (e x)).symm
  · exact View.cover_of_tiled_head _ _ _ rfl y

theorem canon_scales (X : FVec F S2816x8 .f32) : View.canon ([⟨r0_1, X⟩] : List (View.Piece (Elt F) S2816x8 .f32)) = (X : Vec F S2816x8 .f32) := by
  have e (x : S2816x8.Idx) : r0_1.emb x = x := by
    funext a; apply Fin.ext
    match a with
    | ⟨0, _⟩ => show 0 + 1 * (x 0).val = (x 0).val; omega
    | ⟨1, _⟩ => show 0 + 1 * (x 1).val = (x 1).val; omega
  funext y
  refine View.canon_apply_of_pieces (Val := Elt F) (e := .f32) X _ (fun p hp x => ?_) y ?_
  · rw [List.mem_singleton] at hp; subst hp; exact (congrArg X (e x)).symm
  · exact View.cover_of_tiled_head _ _ _ rfl y

theorem out_8 : out0_8 x0 x1 x2 x3 x4 x5 x6 = scaleAt (topOf (k0_pay3 x1 x2 x3 x4 x0)) := by
  unfold_out out0_8
  rw [canon_scales]
  simp only [ld_blocks, ld_scales]
  rfl

theorem out_10 : out0_10 x0 x1 x2 x3 x4 x5 x6 = scaleAt (topOf (k0_pay2 x3 x4 x0)) := by
  unfold_out out0_10
  rw [canon_scales]
  simp only [ld_blocks, ld_scales]
  rfl

theorem out_7 : out0_7 x0 x1 x2 x3 x4 x5 x6 = codesOf (k0_pay3 x1 x2 x3 x4 x0) (k0_pay4 x5) := by
  unfold_out out0_7
  rw [canon_codes]
  simp only [ld_blocks, ld_scales]
  rfl

theorem out_9 : out0_9 x0 x1 x2 x3 x4 x5 x6 = codesOf (k0_pay2 x3 x4 x0) (k0_pay4 x6) := by
  unfold_out out0_9
  rw [canon_codes]
  simp only [ld_blocks, ld_scales]
  rfl
end

end Cert.Proof.Ref

end
-- ==== Proof.RefEls.lean ====
/- The reference's body read at an index, over the extended reals. -/
module

public import proofs.«01_k».proof.Proof.RefBody
public import proofs.«01_k».proof.Proof.Rows
public import Idealize.ShloMosaic.Lib.Pointwise

@[expose] public section

noncomputable section

namespace Cert.Proof.Ref

open Cert.ReferenceIdeal Cert.ReferenceIdeal.Gen Idealize.ShloMosaic Idealize.ShloMosaic.TcCoe Idealize.SL.Sem

theorem mNew_apply (mc : Vec Ideal S2816x8x128 .fp8e4m3) (ms : Vec Ideal S2816x8 .f32) (g : Vec Ideal S2816x8x128 .f32)
    (o : Fin 2816) (b : Fin 8) (k : Fin 128) :
    k0_pay2 mc ms g (ix3 o b k) = Ideal.ofBits .f32 0x3F666666#32 * (mc (ix3 o b k) * ms (ix2 o b)) + g (ix3 o b k) := by
  pointwise [k0_pay2]

theorem wNew_apply (wc : Vec Ideal S2816x8x128 .fp8e4m3) (ws : Vec Ideal S2816x8 .f32) (mc : Vec Ideal S2816x8x128 .fp8e4m3)
    (ms : Vec Ideal S2816x8 .f32) (g : Vec Ideal S2816x8x128 .f32) (o : Fin 2816) (b : Fin 8) (k : Fin 128) :
    k0_pay3 wc ws mc ms g (ix3 o b k) = wc (ix3 o b k) * ws (ix2 o b) - Ideal.ofBits .f32 0x3D4CCCCD#32 * k0_pay2 mc ms g (ix3 o b k) := by
  pointwise [k0_pay3]

/-- The maximum over the last of three axes, at an index. -/
theorem max_last {n0 n1 n2 : ℕ} (v : FVec Ideal (⟨3, ![n0, n1, n2]⟩ : Shape) .f32) (acc : BitVec 32)
    (h : (⟨3, ![n0, n1, n2]⟩ : Shape).Reduces [2] ⟨2, ![n0, n1]⟩) (hφ) (hacc) (o : Fin n0) (b : Fin n1) :
    multiReduction .maximumf [2] ⟨2, ![n0, n1]⟩ v acc h hφ hacc (ix2 o b)
      = (Finset.univ : Finset (Fin n2)).fold max (Ideal.ofBits .f32 acc) fun k => v (ix3 o b k) :=
  (multiReduction_maximumf_eq_fold ..).trans (h.fold_fiber_r3_a2 (ix2 o b) max _ v)

theorem mulf_apply {s : Shape} (x y : FVec Ideal s .f32) (i : s.Idx) : mulf x y i = x i * y i := rfl

theorem topOf_apply (val : FVec Ideal S2816x8x128 .f32) (o : Fin 2816) (b : Fin 8) :
    topOf val (ix2 o b) = Sc.top fun k => val (ix3 o b k) := by
  have e := max_last (absf val) 0xFF800000#32 reduces_S2816x8x128_S2816x8 (.inl rfl) rfl o b
  rw [topOf, mulf_apply]
  exact congrArg (· * Ideal.ofBits .f32 0x3B124925#32) e

theorem bits_spacing (u : Vec Ideal S2816x8x128 .f32) : k0_pay4 u = u := by
  funext j
  obtain ⟨o, b, k, rfl⟩ : ∃ (o : Fin 2816) (b : Fin 8) (k : Fin 128), j = ix3 o b k := ⟨j 0, j 1, j 2, eq_ix3 j⟩
  pointwise [k0_pay4]

theorem flat_apply (x : FVec Ideal S2816x8x128 .fp8e4m3) (o : Fin 2816) (b : Fin 8) (k : Fin 128) :
    (shapeCast S2816x1024 x shapeCasts_S2816x8x128_S2816x1024 : FVec Ideal S2816x1024 .fp8e4m3) (ix2 o (Sc.col b k)) = x (ix3 o b k) := by
  pointwise
  exact congrArg x (congrArg₂ (ix3 o) (Sc.blk_col b k) (Sc.pos_col b k))

theorem unflat_apply {α : Type} (x : S2816x1024.Idx → α) (o : Fin 2816) (b : Fin 8) (k : Fin 128) :
    shapeCast S2816x8x128 x shapeCasts_S2816x1024_S2816x8x128 (ix3 o b k) = x (ix2 o (Sc.col b k)) := by
  pointwise
  exact congrArg x (congrArg (ix2 o) (Fin.ext (show b.val * 128 + k.val = 128 * b.val + k.val by omega)))

/-! The operations of the quantiser, at an index. -/

section
variable {s : Shape} (x y : FVec Ideal s .f32) (i : s.Idx)
theorem addf_apply : addf x y i = x i + y i := rfl
theorem subf_apply : subf x y i = x i - y i := rfl
theorem maximumf_apply : maximumf x y i = max (x i) (y i) := rfl
theorem minimumf_apply : minimumf x y i = min (x i) (y i) := rfl
theorem absf_apply : absf x i = max (x i) (-x i) := rfl
theorem exp2_apply : exp2 x i = Ideal.exp2 (x i) := rfl
theorem floor_apply : floor x i = Ideal.liftRound Int.floor (x i) := rfl
theorem log_apply : log x i = Ideal.log (x i) := rfl
theorem divf_apply : divf x y i = Ideal.div (x i) (y i) := rfl
theorem bits_apply (w : BitVec 32) : (broadcast s (Scalar.ofBits .f32 w : Ideal .f32) : FVec Ideal s .f32) i = Ideal.ofBits .f32 w := rfl
theorem constant_apply (w : BitVec 32) : (constant s .f32 w : FVec Ideal s .f32) i = Ideal.ofBits .f32 w := rfl

theorem select_lt (a b : EReal) (p q : EReal) : Scalar.select (Ideal.cmp .olt a b) p q = if a < b then p else q := by
  by_cases h : a < b <;> simp [Scalar.select, Ideal.cmp, h]

theorem select_gt (a b : EReal) (p q : EReal) : Scalar.select (Ideal.cmp .ogt a b) p q = if b < a then p else q := by
  by_cases h : b < a <;> simp [Scalar.select, Ideal.cmp, h]

theorem select_olt_apply (p q : FVec Ideal s .f32) : select (cmpf .olt x y) p q i = if x i < y i then p i else q i := select_lt _ _ _ _
theorem select_ogt_apply (p q : FVec Ideal s .f32) : select (cmpf .ogt x y) p q i = if y i < x i then p i else q i := select_gt _ _ _ _

theorem ln2_apply : (broadcast s (Named.named κ "ln2" 0x3F317218#32 : Ideal .f32) : FVec Ideal s .f32) i = ((Real.log 2 : ℝ) : EReal) :=
  IdealRules.named_const.ideal_named_scalar _ _ _ _ rfl
end

theorem bits_zero : Ideal.ofBits .f32 0x00000000#32 = 0 := Ideal.ofBits_zero_f32
theorem bits_one : Ideal.ofBits .f32 0x3F800000#32 = 1 := by
  simp [Ideal.ofBits, Ideal.ieee, -EReal.coe_mul]; norm_num
theorem bits_neg_one : Ideal.ofBits .f32 0xBF800000#32 = -1 := by
  have : Ideal.ofBits .f32 0xBF800000#32 = ((-1 : ℝ) : EReal) := by
    simp [Ideal.ofBits, Ideal.ieee, -EReal.coe_mul, -EReal.coe_neg]; norm_num
  rw [this]; simp
theorem bits_tiny : Ideal.ofBits .f32 0x00800000#32 = (((2 : ℝ) ^ (-126 : ℤ) : ℝ) : EReal) := by
  simp [Ideal.ofBits, Ideal.ieee, -EReal.coe_mul]; norm_num
theorem bits_127 : Ideal.ofBits .f32 0x7F000000#32 = (((2 : ℝ) ^ (127 : ℤ) : ℝ) : EReal) := by
  simp [Ideal.ofBits, Ideal.ieee, -EReal.coe_mul, -EReal.coe_pow]; norm_num
theorem bits_126 : Ideal.ofBits .f32 0x7E800000#32 = (((2 : ℝ) ^ (126 : ℤ) : ℝ) : EReal) := by
  simp [Ideal.ofBits, Ideal.ieee, -EReal.coe_mul, -EReal.coe_pow]; norm_num
theorem bits_neg_127 : Ideal.ofBits .f32 0xFF000000#32 = ((-(2 : ℝ) ^ (127 : ℤ) : ℝ) : EReal) := by
  simp [Ideal.ofBits, Ideal.ieee, -EReal.coe_mul, -EReal.coe_neg]; norm_num
theorem bits_top : Ideal.ofBits .f32 0x7F800000#32 = ⊤ := by
  simp [Ideal.ofBits, Ideal.ieee, -EReal.coe_mul]
theorem bits_bot : Ideal.ofBits .f32 0xFF800000#32 = ⊥ := by
  simp [Ideal.ofBits, Ideal.ieee, -EReal.coe_mul]
theorem bits_neg_five : Ideal.ofBits .f32 0xC0A00000#32 = ((-5 : ℝ) : EReal) := by
  simp [Ideal.ofBits, Ideal.ieee, -EReal.coe_mul, -EReal.coe_neg]; norm_num
theorem bits_four : Ideal.ofBits .f32 0x40800000#32 = ((4 : ℝ) : EReal) := by
  simp [Ideal.ofBits, Ideal.ieee, -EReal.coe_mul]; norm_num

theorem expPlus_apply {s : Shape} (x : FVec Ideal s .f32) (i : s.Idx) : expPlus x i = Ideal.liftRound Int.floor (Sc.log2 (x i)) + 1 := by
  rw [expPlus, addf_apply, floor_apply, divf_apply, log_apply, ln2_apply, bits_apply, bits_one, Sc.log2]

theorem expOf_apply (x : FVec Ideal S2816x8 .f32) (i : S2816x8.Idx) : expOf x i = Sc.rExp (x i) := by
  rw [expOf, select_olt_apply, bits_apply, bits_apply, expPlus_apply, bits_tiny, bits_zero, Sc.rExp]

theorem scaleAt_apply (x : FVec Ideal S2816x8 .f32) (i : S2816x8.Idx) : scaleAt x i = Sc.rScale (x i) := by
  rw [scaleAt, select_olt_apply, select_olt_apply, exp2_apply, expOf_apply, bits_apply, bits_apply, bits_apply, bits_127, bits_top, bits_zero,
    Sc.rScale]

theorem invAt_apply (x : FVec Ideal S2816x8 .f32) (i : S2816x8.Idx) : invAt x i = Sc.rInv (x i) := by
  rw [invAt, select_olt_apply, select_olt_apply, select_olt_apply, exp2_apply, subf_apply, expOf_apply]
  rw [bits_apply, bits_apply, bits_apply, bits_apply, bits_apply, bits_apply, bits_127, bits_126, bits_top, bits_bot, bits_zero, bits_neg_127, Sc.rInv]

theorem clipTo_apply (x : FVec Ideal S2816x8x128 .f32) (i : S2816x8x128.Idx) : clipTo x i = Sc.clip (x i) := by
  rw [clipTo, minimumf_apply, maximumf_apply, bits_apply, bits_apply, Sc.clip]

/-- A block's number along its elements. -/
theorem along_apply (x : FVec Ideal S2816x8 .f32) (o : Fin 2816) (b : Fin 8) (k : Fin 128) :
    broadcastTo S2816x8x128 (shapeCast S2816x8x1 x shapeCasts_S2816x8_S2816x8x1) broadcasts_S2816x8x1_S2816x8x128 (ix3 o b k) = x (ix2 o b) := by
  pointwise

theorem clipOf_apply (val : FVec Ideal S2816x8x128 .f32) (o : Fin 2816) (b : Fin 8) (k : Fin 128) :
    clipOf val (ix3 o b k) = Sc.clip (val (ix3 o b k) * Sc.rInv (Sc.top fun k => val (ix3 o b k))) := by
  rw [clipOf, clipTo_apply, mulf_apply, along_apply, invAt_apply, topOf_apply]

theorem spacing_apply (v : FVec Ideal S2816x8x128 .f32) (i : S2816x8x128.Idx) : spacing v i = Sc.rSpacing (v i) := by
  rw [spacing, subf_apply, maximumf_apply, expPlus_apply, absf_apply, bits_apply, bits_apply, bits_neg_five, bits_four, Sc.rSpacing]

theorem quot_apply (v : FVec Ideal S2816x8x128 .f32) (i : S2816x8x128.Idx) : quot v i = Sc.rQuot (v i) := by
  rw [quot, mulf_apply, absf_apply, exp2_apply, subf_apply, spacing_apply, bits_apply, bits_zero, Sc.rQuot]

theorem magOf_apply (v u : FVec Ideal S2816x8x128 .f32) (i : S2816x8x128.Idx) : magOf v u i = Sc.rMag (v i) (u i) := by
  rw [magOf, mulf_apply, addf_apply, select_olt_apply, exp2_apply, spacing_apply, subf_apply, floor_apply, quot_apply, bits_apply, bits_apply,
    bits_one, bits_zero, Sc.rMag]

theorem signOf_apply (v : FVec Ideal S2816x8x128 .f32) (i : S2816x8x128.Idx) :
    signOf v i = if 0 < max (v i) (-v i) then (if v i < 0 then -1 else 1) else v i := by
  rw [signOf, select_ogt_apply, select_olt_apply, absf_apply, bits_apply, constant_apply, constant_apply, constant_apply, bits_zero,
    bits_neg_one, bits_one]

theorem codesAt_apply (v u : FVec Ideal S2816x8x128 .f32) (i : S2816x8x128.Idx) : codesAt v u i = Sc.rCode (v i) (u i) := by
  rw [codesAt, clipTo_apply, mulf_apply, signOf_apply, magOf_apply, Sc.clip, Sc.ofBits_448, Sc.ofBits_neg448, Sc.rCode]

/-- The scales of blocks. -/
theorem scales_apply (val : FVec Ideal S2816x8x128 .f32) (o : Fin 2816) (b : Fin 8) :
    scaleAt (topOf val) (ix2 o b) = Sc.qScale fun k => val (ix3 o b k) := by
  rw [scaleAt_apply, topOf_apply, Sc.qScale]

theorem truncf_eq (v : FVec Ideal S2816x8x128 .f32) : (truncf .fp8e4m3 v bitsLt_fp8e4m3_f32 : FVec Ideal S2816x8x128 .fp8e4m3) = v := rfl

/-- The codes of blocks. -/
theorem codes_apply (val u : FVec Ideal S2816x8x128 .f32) (o : Fin 2816) (b : Fin 8) (k : Fin 128) (w : BitVec 32)
    (hu : u (ix3 o b k) = Sc.uniform w) : codesOf val u (ix2 o (Sc.col b k)) = Sc.qCode (fun k => val (ix3 o b k)) k w := by
  rw [codesOf, flat_apply, truncf_eq, codesAt_apply, clipOf_apply, hu, Sc.qCode]

end Cert.Proof.Ref

end
-- ==== Proof.RefBlocks.lean ====
/- What the reference's run leaves in its four results: each is the body's result over whole arrays, since the reference
   launches its body once, on whole arrays. -/
module

public import proofs.«01_k».proof.Proof.Gen.ReferenceIdeal.Frame
public import Idealize.ShloMosaic.Lib.Pipeline.Value

@[expose] public section

noncomputable section

namespace Cert.Proof.Ref

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The launch's one grid point. -/
abbrev t0 : Fin cfg0.N := ⟨0, by decide⟩

theorem point : ∀ t : Fin cfg0.N, t = t0 := (by decide +kernel : ∀ t : Fin grid0.N, t = ⟨0, by decide⟩)

/-! An index of a window's block is the same index of its array. -/

theorem emb_0 (j : S2816x8x128.Idx) : ((cfg0.win 0).blk t0).view.emb j = j := by
  funext a; apply Fin.ext
  match a with
  | ⟨0, _⟩ => show 0 * 2816 + 1 * (j 0).val = (j 0).val; omega
  | ⟨1, _⟩ => show 0 * 8 + 1 * (j 1).val = (j 1).val; omega
  | ⟨2, _⟩ => show 0 * 128 + 1 * (j 2).val = (j 2).val; omega

theorem emb_1 (j : S2816x8x128.Idx) : ((cfg0.win 1).blk t0).view.emb j = j := by
  funext a; apply Fin.ext
  match a with
  | ⟨0, _⟩ => show 0 * 2816 + 1 * (j 0).val = (j 0).val; omega
  | ⟨1, _⟩ => show 0 * 8 + 1 * (j 1).val = (j 1).val; omega
  | ⟨2, _⟩ => show 0 * 128 + 1 * (j 2).val = (j 2).val; omega

theorem emb_2 (j : S2816x8.Idx) : ((cfg0.win 2).blk t0).view.emb j = j := by
  funext a; apply Fin.ext
  match a with
  | ⟨0, _⟩ => show 0 * 2816 + 1 * (j 0).val = (j 0).val; omega
  | ⟨1, _⟩ => show 0 * 8 + 1 * (j 1).val = (j 1).val; omega

theorem emb_3 (j : S2816x8x128.Idx) : ((cfg0.win 3).blk t0).view.emb j = j := by
  funext a; apply Fin.ext
  match a with
  | ⟨0, _⟩ => show 0 * 2816 + 1 * (j 0).val = (j 0).val; omega
  | ⟨1, _⟩ => show 0 * 8 + 1 * (j 1).val = (j 1).val; omega
  | ⟨2, _⟩ => show 0 * 128 + 1 * (j 2).val = (j 2).val; omega

theorem emb_4 (j : S2816x8.Idx) : ((cfg0.win 4).blk t0).view.emb j = j := by
  funext a; apply Fin.ext
  match a with
  | ⟨0, _⟩ => show 0 * 2816 + 1 * (j 0).val = (j 0).val; omega
  | ⟨1, _⟩ => show 0 * 8 + 1 * (j 1).val = (j 1).val; omega

theorem emb_5 (j : S2816x8x128.Idx) : ((cfg0.win 5).blk t0).view.emb j = j := by
  funext a; apply Fin.ext
  match a with
  | ⟨0, _⟩ => show 0 * 2816 + 1 * (j 0).val = (j 0).val; omega
  | ⟨1, _⟩ => show 0 * 8 + 1 * (j 1).val = (j 1).val; omega
  | ⟨2, _⟩ => show 0 * 128 + 1 * (j 2).val = (j 2).val; omega

theorem emb_6 (j : S2816x8x128.Idx) : ((cfg0.win 6).blk t0).view.emb j = j := by
  funext a; apply Fin.ext
  match a with
  | ⟨0, _⟩ => show 0 * 2816 + 1 * (j 0).val = (j 0).val; omega
  | ⟨1, _⟩ => show 0 * 8 + 1 * (j 1).val = (j 1).val; omega
  | ⟨2, _⟩ => show 0 * 128 + 1 * (j 2).val = (j 2).val; omega

theorem emb_7 (j : S2816x1024.Idx) : ((cfg0.win 7).blk t0).view.emb j = j := by
  funext a; apply Fin.ext
  match a with
  | ⟨0, _⟩ => show 0 * 2816 + 1 * (j 0).val = (j 0).val; omega
  | ⟨1, _⟩ => show 0 * 1024 + 1 * (j 1).val = (j 1).val; omega

theorem emb_8 (j : S2816x8.Idx) : ((cfg0.win 8).blk t0).view.emb j = j := by
  funext a; apply Fin.ext
  match a with
  | ⟨0, _⟩ => show 0 * 2816 + 1 * (j 0).val = (j 0).val; omega
  | ⟨1, _⟩ => show 0 * 8 + 1 * (j 1).val = (j 1).val; omega

theorem emb_9 (j : S2816x1024.Idx) : ((cfg0.win 9).blk t0).view.emb j = j := by
  funext a; apply Fin.ext
  match a with
  | ⟨0, _⟩ => show 0 * 2816 + 1 * (j 0).val = (j 0).val; omega
  | ⟨1, _⟩ => show 0 * 1024 + 1 * (j 1).val = (j 1).val; omega

theorem emb_10 (j : S2816x8.Idx) : ((cfg0.win 10).blk t0).view.emb j = j := by
  funext a; apply Fin.ext
  match a with
  | ⟨0, _⟩ => show 0 * 2816 + 1 * (j 0).val = (j 0).val; omega
  | ⟨1, _⟩ => show 0 * 8 + 1 * (j 1).val = (j 1).val; omega

/-! So an input window's block is its array as the launch finds it. -/

theorem iblk_0 (c : Dev nD) : iblk m c 0 t0 = V m c main_v3 := by
  funext j; show V m c main_v3 (((cfg0.win 0).blk t0).view.emb j) = V m c main_v3 j; rw [emb_0]

theorem iblk_1 (c : Dev nD) : iblk m c 1 t0 = V m c main_v4 := by
  funext j; show V m c main_v4 (((cfg0.win 1).blk t0).view.emb j) = V m c main_v4 j; rw [emb_1]

theorem iblk_2 (c : Dev nD) : iblk m c 2 t0 = V m c main_arg3 := by
  funext j; show V m c main_arg3 (((cfg0.win 2).blk t0).view.emb j) = V m c main_arg3 j; rw [emb_2]

theorem iblk_3 (c : Dev nD) : iblk m c 3 t0 = V m c main_v5 := by
  funext j; show V m c main_v5 (((cfg0.win 3).blk t0).view.emb j) = V m c main_v5 j; rw [emb_3]

theorem iblk_4 (c : Dev nD) : iblk m c 4 t0 = V m c main_arg5 := by
  funext j; show V m c main_arg5 (((cfg0.win 4).blk t0).view.emb j) = V m c main_arg5 j; rw [emb_4]

theorem iblk_5 (c : Dev nD) : iblk m c 5 t0 = V m c main_v11 := by
  funext j; show V m c main_v11 (((cfg0.win 5).blk t0).view.emb j) = V m c main_v11 j; rw [emb_5]

theorem iblk_6 (c : Dev nD) : iblk m c 6 t0 = V m c main_v17 := by
  funext j; show V m c main_v17 (((cfg0.win 6).blk t0).view.emb j) = V m c main_v17 j; rw [emb_6]

/-! And a result array after the run is the body's result for it. -/

theorem cut_7 (X : Vec F S2816x1024 .fp8e4m3) : (cfg0.win 7).cut (grid0.coords t0) X = ((cfg0.win 7).blk t0).view.read (Elt F) X := by
  funext j; show X j = X (((cfg0.win 7).blk t0).view.emb j); rw [emb_7]

theorem flushed_7 (c : Dev nD) (t : Fin cfg0.N) : (dats m 0 c).flushed 7 t = ((cfg0.win 7).blk t).view.read (Elt F)
    (out0_7 (V m c main_v3) (V m c main_v4) (V m c main_arg3) (V m c main_v5) (V m c main_arg5) (V m c main_v11) (V m c main_v17)) := by
  rw [point t]
  show (cfg0.win 7).cut (grid0.coords t0) ((dats m 0 c).after 7 t0) = _
  rw [after0_7, iblk_0, iblk_1, iblk_2, iblk_3, iblk_4, iblk_5, iblk_6]
  exact cut_7 _

theorem final_7 (c : Dev nD) : (dats m 0 c).arrAt 7 cfg0.N
    = out0_7 (V m c main_v3) (V m c main_v4) (V m c main_arg3) (V m c main_v5) (V m c main_arg5) (V m c main_v11) (V m c main_v17) :=
  (dats m 0 c).arrAt_eq_of_cover 7 _ (fun t _ => flushed_7 m c t) fun i => ⟨t0, by decide, by
    have h := ((cfg0.win 7).blk t0).view.emb_mem_set i; rwa [emb_7] at h⟩

theorem cut_8 (X : Vec F S2816x8 .f32) : (cfg0.win 8).cut (grid0.coords t0) X = ((cfg0.win 8).blk t0).view.read (Elt F) X := by
  funext j; show X j = X (((cfg0.win 8).blk t0).view.emb j); rw [emb_8]

theorem flushed_8 (c : Dev nD) (t : Fin cfg0.N) : (dats m 0 c).flushed 8 t = ((cfg0.win 8).blk t).view.read (Elt F)
    (out0_8 (V m c main_v3) (V m c main_v4) (V m c main_arg3) (V m c main_v5) (V m c main_arg5) (V m c main_v11) (V m c main_v17)) := by
  rw [point t]
  show (cfg0.win 8).cut (grid0.coords t0) ((dats m 0 c).after 8 t0) = _
  rw [after0_8, iblk_0, iblk_1, iblk_2, iblk_3, iblk_4, iblk_5, iblk_6]
  exact cut_8 _

theorem final_8 (c : Dev nD) : (dats m 0 c).arrAt 8 cfg0.N
    = out0_8 (V m c main_v3) (V m c main_v4) (V m c main_arg3) (V m c main_v5) (V m c main_arg5) (V m c main_v11) (V m c main_v17) :=
  (dats m 0 c).arrAt_eq_of_cover 8 _ (fun t _ => flushed_8 m c t) fun i => ⟨t0, by decide, by
    have h := ((cfg0.win 8).blk t0).view.emb_mem_set i; rwa [emb_8] at h⟩

theorem cut_9 (X : Vec F S2816x1024 .fp8e4m3) : (cfg0.win 9).cut (grid0.coords t0) X = ((cfg0.win 9).blk t0).view.read (Elt F) X := by
  funext j; show X j = X (((cfg0.win 9).blk t0).view.emb j); rw [emb_9]

theorem flushed_9 (c : Dev nD) (t : Fin cfg0.N) : (dats m 0 c).flushed 9 t = ((cfg0.win 9).blk t).view.read (Elt F)
    (out0_9 (V m c main_v3) (V m c main_v4) (V m c main_arg3) (V m c main_v5) (V m c main_arg5) (V m c main_v11) (V m c main_v17)) := by
  rw [point t]
  show (cfg0.win 9).cut (grid0.coords t0) ((dats m 0 c).after 9 t0) = _
  rw [after0_9, iblk_0, iblk_1, iblk_2, iblk_3, iblk_4, iblk_5, iblk_6]
  exact cut_9 _

theorem final_9 (c : Dev nD) : (dats m 0 c).arrAt 9 cfg0.N
    = out0_9 (V m c main_v3) (V m c main_v4) (V m c main_arg3) (V m c main_v5) (V m c main_arg5) (V m c main_v11) (V m c main_v17) :=
  (dats m 0 c).arrAt_eq_of_cover 9 _ (fun t _ => flushed_9 m c t) fun i => ⟨t0, by decide, by
    have h := ((cfg0.win 9).blk t0).view.emb_mem_set i; rwa [emb_9] at h⟩

theorem cut_10 (X : Vec F S2816x8 .f32) : (cfg0.win 10).cut (grid0.coords t0) X = ((cfg0.win 10).blk t0).view.read (Elt F) X := by
  funext j; show X j = X (((cfg0.win 10).blk t0).view.emb j); rw [emb_10]

theorem flushed_10 (c : Dev nD) (t : Fin cfg0.N) : (dats m 0 c).flushed 10 t = ((cfg0.win 10).blk t).view.read (Elt F)
    (out0_10 (V m c main_v3) (V m c main_v4) (V m c main_arg3) (V m c main_v5) (V m c main_arg5) (V m c main_v11) (V m c main_v17)) := by
  rw [point t]
  show (cfg0.win 10).cut (grid0.coords t0) ((dats m 0 c).after 10 t0) = _
  rw [after0_10, iblk_0, iblk_1, iblk_2, iblk_3, iblk_4, iblk_5, iblk_6]
  exact cut_10 _

theorem final_10 (c : Dev nD) : (dats m 0 c).arrAt 10 cfg0.N
    = out0_10 (V m c main_v3) (V m c main_v4) (V m c main_arg3) (V m c main_v5) (V m c main_arg5) (V m c main_v11) (V m c main_v17) :=
  (dats m 0 c).arrAt_eq_of_cover 10 _ (fun t _ => flushed_10 m c t) fun i => ⟨t0, by decide, by
    have h := ((cfg0.win 10).blk t0).view.emb_mem_set i; rwa [emb_10] at h⟩

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The run with each result named. -/
theorem run : θ_run defs (onTc (τ := τ) (main (F := F))) ⟨m, fun _ => 0, ρ⟩ fun r => ∀ c : Dev nD,
      r.2.mem ((c : Thread nD τ).loc main_v18_0) = out0_7 (V m c main_v3) (V m c main_v4) (V m c main_arg3) (V m c main_v5) (V m c main_arg5) (V m c main_v11) (V m c main_v17)
      ∧ r.2.mem ((c : Thread nD τ).loc main_v18_1) = out0_8 (V m c main_v3) (V m c main_v4) (V m c main_arg3) (V m c main_v5) (V m c main_arg5) (V m c main_v11) (V m c main_v17)
      ∧ r.2.mem ((c : Thread nD τ).loc main_v18_2) = out0_9 (V m c main_v3) (V m c main_v4) (V m c main_arg3) (V m c main_v5) (V m c main_arg5) (V m c main_v11) (V m c main_v17)
      ∧ r.2.mem ((c : Thread nD τ).loc main_v18_3) = out0_10 (V m c main_v3) (V m c main_v4) (V m c main_arg3) (V m c main_v5) (V m c main_arg5) (V m c main_v11) (V m c main_v17)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 7).trans (final_7 m c), ((h c).1 8).trans (final_8 m c), ((h c).1 9).trans (final_9 m c), ((h c).1 10).trans (final_10 m c),
      kept_main_arg0 m r h c, kept_main_arg1 m r h c, kept_main_arg2 m r h c, kept_main_arg3 m r h c, kept_main_arg4 m r h c, kept_main_arg5 m r h c, kept_main_arg6 m r h c, kept_main_arg7 m r h c⟩)
    (run_main m ρ)

end Cert.Proof.Ref

end
-- ==== Proof.RefArrays.lean ====
/- What the reference's run leaves in its four results, over the arguments: the codes and scales of every row. -/
module

public import proofs.«01_k».proof.Proof.RefEls
public import proofs.«01_k».proof.Proof.RefBlocks
public import Idealize.ShloMosaic.Lib.Claim
public import Idealize.ShloMosaic.Lib.IdealHost

@[expose] public section

noncomputable section

namespace Cert.Proof.Ref

open Cert.ReferenceIdeal Cert.ReferenceIdeal.Gen Idealize.ShloMosaic Idealize.ShloMosaic.TcCoe Idealize.SL.Sem

variable (m : (ℓ : Loc nD τ sig) → Buf (Elt Ideal) ℓ)

/-- The sum over the tokens. -/
def total (x : Vec Ideal S12x1280x1024 .bf16) (dy : Vec Ideal S12x1280x2816 .bf16) : S2816x1024.Idx → EReal := fun j =>
  ∑ a : Fin 12, ∑ t : Fin 1280, dy (ix3 a t (j 0)) * x (ix3 a t (j 1))

theorem dot_apply (x : FVec Ideal S12x1280x1024 .bf16) (dy : FVec Ideal S12x1280x2816 .bf16) (o : Fin 2816) (i : Fin 1024) :
    (Host.dotGeneral dot_S12x1280x2816_S12x1280x1024_S2816x1024_01_01_2_2_n_n none dy x : FVec Ideal S2816x1024 .f32) (ix2 o i)
      = total x dy (ix2 o i) := by
  pointwise [total]

theorem bits_at {s : Shape} (h) (w : BitVec 32) (i : s.Idx) :
    (broadcastInDim s ![] h (constant S_ .f32 w : FVec Ideal S_ .f32) : FVec Ideal s .f32) i = Ideal.ofBits .f32 w := rfl

theorem grad_apply (x : FVec Ideal S12x1280x1024 .bf16) (dy : FVec Ideal S12x1280x2816 .bf16) (o : Fin 2816) (b : Fin 8) (k : Fin 128) :
    shapeCast S2816x8x128 (mulf (Host.dotGeneral dot_S12x1280x2816_S12x1280x1024_S2816x1024_01_01_2_2_n_n none dy x : FVec Ideal S2816x1024 .f32)
        (broadcastInDim S2816x1024 ![] bcast_S_S2816x1024 (constant S_ .f32 0x38888889#32))) shapeCasts_S2816x1024_S2816x8x128 (ix3 o b k)
      = total x dy (ix2 o (Sc.col b k)) * Ideal.ofBits .f32 0x38888889#32 := by
  rw [unflat_apply, mulf_apply, dot_apply, bits_at]

theorem V_v3 (c : Dev nD) (o : Fin 2816) (b : Fin 8) (k : Fin 128) :
    (V m c main_v3 : Vec Ideal S2816x8x128 .f32) (ix3 o b k)
      = total (m ((c : Thread nD τ).loc main_arg0)) (m ((c : Thread nD τ).loc main_arg1)) (ix2 o (Sc.col b k)) * Ideal.ofBits .f32 0x38888889#32 := by
  entry_read
  exact grad_apply _ _ o b k

theorem bits_scale : Ideal.ofBits .f32 0x33800000#32 = (((2 : ℝ) ^ (-24 : ℤ) : ℝ) : EReal) := by
  simp [Ideal.ofBits, Ideal.ieee, -EReal.coe_mul]; norm_num

theorem uitofp_apply {s : Shape} (x : IVec s 32) (i : s.Idx) : (uitofp .f32 x : FVec Ideal s .f32) i = (((x i).toNat : ℝ) : EReal) := rfl

theorem shrui_apply (w : IVec S2816x1024 32) (i : S2816x1024.Idx) :
    Host.shrui w (broadcastInDim S2816x1024 ![] bcast_S_S2816x1024 (constantI S_ 32 8#32)) i = IntOp.shrui .vector (w i) 8#32 := by
  simp [Host.shrui, IntOp.shrui, broadcastInDim, constantI]

theorem uniform_apply (w : IVec S2816x1024 32) (o : Fin 2816) (b : Fin 8) (k : Fin 128) :
    mulf (shapeCast S2816x8x128 (uitofp .f32 (Host.shrui w (broadcastInDim S2816x1024 ![] bcast_S_S2816x1024 (constantI S_ 32 8#32))) : FVec Ideal S2816x1024 .f32)
        shapeCasts_S2816x1024_S2816x8x128)
      (broadcastInDim S2816x8x128 ![] bcast_S_S2816x8x128 (constant S_ .f32 0x33800000#32)) (ix3 o b k)
      = Sc.uniform (w (ix2 o (Sc.col b k))) := by
  rw [mulf_apply, unflat_apply, uitofp_apply, shrui_apply, bits_at, bits_scale, Sc.uniform]

theorem V_v11 (c : Dev nD) (o : Fin 2816) (b : Fin 8) (k : Fin 128) :
    (V m c main_v11 : Vec Ideal S2816x8x128 .f32) (ix3 o b k)
      = Sc.uniform ((m ((c : Thread nD τ).loc main_arg6) : Vec Ideal S2816x1024 .i32) (ix2 o (Sc.col b k))) := by
  entry_read
  exact uniform_apply _ o b k

theorem V_v17 (c : Dev nD) (o : Fin 2816) (b : Fin 8) (k : Fin 128) :
    (V m c main_v17 : Vec Ideal S2816x8x128 .f32) (ix3 o b k)
      = Sc.uniform ((m ((c : Thread nD τ).loc main_arg7) : Vec Ideal S2816x1024 .i32) (ix2 o (Sc.col b k))) := by
  entry_read
  exact uniform_apply _ o b k

theorem V_v4 (c : Dev nD) (o : Fin 2816) (b : Fin 8) (k : Fin 128) :
    (V m c main_v4 : Vec Ideal S2816x8x128 .fp8e4m3) (ix3 o b k)
      = (m ((c : Thread nD τ).loc main_arg2) : Vec Ideal S2816x1024 .fp8e4m3) (ix2 o (Sc.col b k)) := by
  entry_read
  exact unflat_apply _ o b k

theorem V_v5 (c : Dev nD) (o : Fin 2816) (b : Fin 8) (k : Fin 128) :
    (V m c main_v5 : Vec Ideal S2816x8x128 .fp8e4m3) (ix3 o b k)
      = (m ((c : Thread nD τ).loc main_arg4) : Vec Ideal S2816x1024 .fp8e4m3) (ix2 o (Sc.col b k)) := by
  entry_read
  exact unflat_apply _ o b k

/-- The new momentum by rows and blocks. -/
def mRows (c : Dev nD) : Fin 2816 → Fin 8 → Fin 128 → EReal :=
  Sc.mRow (total (m ((c : Thread nD τ).loc main_arg0)) (m ((c : Thread nD τ).loc main_arg1))) (m ((c : Thread nD τ).loc main_arg4))
    (m ((c : Thread nD τ).loc main_arg5))

/-- The new weight by rows and blocks. -/
def wRows (c : Dev nD) : Fin 2816 → Fin 8 → Fin 128 → EReal :=
  Sc.wRow (total (m ((c : Thread nD τ).loc main_arg0)) (m ((c : Thread nD τ).loc main_arg1))) (m ((c : Thread nD τ).loc main_arg2))
    (m ((c : Thread nD τ).loc main_arg3)) (m ((c : Thread nD τ).loc main_arg4)) (m ((c : Thread nD τ).loc main_arg5))

theorem mRow_eq (c : Dev nD) (o : Fin 2816) (b : Fin 8) :
    (fun k => k0_pay2 (V m c main_v5) (V m c main_arg5) (V m c main_v3) (ix3 o b k)) = mRows m c o b := by
  funext k
  rw [mNew_apply, V_v3, V_v5, V_main_arg5]
  rfl

theorem wRow_eq (c : Dev nD) (o : Fin 2816) (b : Fin 8) :
    (fun k => k0_pay3 (V m c main_v4) (V m c main_arg3) (V m c main_v5) (V m c main_arg5) (V m c main_v3) (ix3 o b k)) = wRows m c o b := by
  funext k
  rw [wNew_apply, mNew_apply, V_v3, V_v4, V_v5, V_main_arg3, V_main_arg5]
  rfl

theorem result_7 (c : Dev nD) :
    out0_7 (V m c main_v3) (V m c main_v4) (V m c main_arg3) (V m c main_v5) (V m c main_arg5) (V m c main_v11) (V m c main_v17)
      = Sc.codes (m ((c : Thread nD τ).loc main_arg6)) (wRows m c) := by
  rw [out_7, bits_spacing]
  funext j
  obtain ⟨o, i, rfl⟩ : ∃ (o : Fin 2816) (i : Fin 1024), j = ix2 o i := ⟨j 0, j 1, eq_ix2 j⟩
  rw [← Sc.col_blk_pos i, codes_apply _ _ o _ _ _ (V_v11 m c o _ _), wRow_eq]
  show _ = Sc.qCode (wRows m c o (Sc.blk (Sc.col (Sc.blk i) (Sc.pos i)))) (Sc.pos (Sc.col (Sc.blk i) (Sc.pos i))) _
  rw [Sc.col_blk_pos]

theorem result_9 (c : Dev nD) :
    out0_9 (V m c main_v3) (V m c main_v4) (V m c main_arg3) (V m c main_v5) (V m c main_arg5) (V m c main_v11) (V m c main_v17)
      = Sc.codes (m ((c : Thread nD τ).loc main_arg7)) (mRows m c) := by
  rw [out_9, bits_spacing]
  funext j
  obtain ⟨o, i, rfl⟩ : ∃ (o : Fin 2816) (i : Fin 1024), j = ix2 o i := ⟨j 0, j 1, eq_ix2 j⟩
  rw [← Sc.col_blk_pos i, codes_apply _ _ o _ _ _ (V_v17 m c o _ _), mRow_eq]
  show _ = Sc.qCode (mRows m c o (Sc.blk (Sc.col (Sc.blk i) (Sc.pos i)))) (Sc.pos (Sc.col (Sc.blk i) (Sc.pos i))) _
  rw [Sc.col_blk_pos]

theorem result_8 (c : Dev nD) :
    out0_8 (V m c main_v3) (V m c main_v4) (V m c main_arg3) (V m c main_v5) (V m c main_arg5) (V m c main_v11) (V m c main_v17)
      = Sc.scales (wRows m c) := by
  rw [out_8]
  funext j
  obtain ⟨o, b, rfl⟩ : ∃ (o : Fin 2816) (b : Fin 8), j = ix2 o b := ⟨j 0, j 1, eq_ix2 j⟩
  rw [scales_apply, wRow_eq]
  rfl

theorem result_10 (c : Dev nD) :
    out0_10 (V m c main_v3) (V m c main_v4) (V m c main_arg3) (V m c main_v5) (V m c main_arg5) (V m c main_v11) (V m c main_v17)
      = Sc.scales (mRows m c) := by
  rw [out_10]
  funext j
  obtain ⟨o, b, rfl⟩ : ∃ (o : Fin 2816) (b : Fin 8), j = ix2 o b := ⟨j 0, j 1, eq_ix2 j⟩
  rw [scales_apply, mRow_eq]
  rfl

end Cert.Proof.Ref

end
-- ==== Proof.Tokens.lean ====
/- The sum over the flattened tokens is the sum over the two token axes. -/
module

public import proofs.«01_k».proof.Proof.KernelArrays
public import proofs.«01_k».proof.Proof.RefArrays

@[expose] public section

noncomputable section

namespace Cert.Proof.Ker

open Cert.KernelIdeal Cert.KernelIdeal.Gen Idealize.ShloMosaic Idealize.ShloMosaic.TcCoe Idealize.SL.Sem

variable (m : (ℓ : Loc nD τ sig) → Buf (Elt Ideal) ℓ)

/-- The flattened token of a pair. -/
def tok (a : Fin 12) (t : Fin 1280) : Fin 15360 := ⟨1280 * a.val + t.val, by have := a.isLt; have := t.isLt; omega⟩

theorem sum_tokens (f : Fin 15360 → EReal) : ∑ k, f k = ∑ a : Fin 12, ∑ t : Fin 1280, f (tok a t) := by
  rw [← Fintype.sum_prod_type', ← Equiv.sum_comp (finProdFinEquiv (m := 12) (n := 1280)) f]
  refine Finset.sum_congr rfl fun p _ => congrArg f (Fin.ext ?_)
  show p.2.val + 1280 * p.1.val = 1280 * p.1.val + p.2.val
  omega

theorem flat_x (x : FVec Ideal S12x1280x1024 .bf16) (a : Fin 12) (t : Fin 1280) (i : Fin 1024) :
    (shapeCast S15360x1024 x shapeCasts_S12x1280x1024_S15360x1024 : FVec Ideal S15360x1024 .bf16) (ix2 (tok a t) i) = x (ix3 a t i) := by
  pointwise
  exact congrArg x (congrArg₂ (fun a t => ix3 a t i) (Fin.ext (show (1280 * a.val + t.val) / 1280 = a.val by have := t.isLt; omega))
    (Fin.ext (show (1280 * a.val + t.val) % 1280 = t.val by have := t.isLt; omega)))

theorem flat_dy (x : FVec Ideal S12x1280x2816 .bf16) (a : Fin 12) (t : Fin 1280) (i : Fin 2816) :
    (shapeCast S15360x2816 x shapeCasts_S12x1280x2816_S15360x2816 : FVec Ideal S15360x2816 .bf16) (ix2 (tok a t) i) = x (ix3 a t i) := by
  pointwise
  exact congrArg x (congrArg₂ (fun a t => ix3 a t i) (Fin.ext (show (1280 * a.val + t.val) / 1280 = a.val by have := t.isLt; omega))
    (Fin.ext (show (1280 * a.val + t.val) % 1280 = t.val by have := t.isLt; omega)))

theorem total_flat (x : FVec Ideal S12x1280x1024 .bf16) (dy : FVec Ideal S12x1280x2816 .bf16) :
    total (shapeCast S15360x1024 x shapeCasts_S12x1280x1024_S15360x1024) (shapeCast S15360x2816 dy shapeCasts_S12x1280x2816_S15360x2816)
      = Ref.total x dy := by
  funext j
  obtain ⟨o, i, rfl⟩ : ∃ (o : Fin 2816) (i : Fin 1024), j = ix2 o i := ⟨j 0, j 1, eq_ix2 j⟩
  refine (sum_tokens _).trans (Finset.sum_congr rfl fun a _ => Finset.sum_congr rfl fun t _ => ?_)
  exact congrArg₂ (fun p q : EReal => p * q) (flat_dy dy a t o) (flat_x x a t i)

theorem total_eq (c : Dev nD) : total (V m c main_v0) (V m c main_v1)
    = Ref.total (m ((c : Thread nD τ).loc main_arg0)) (m ((c : Thread nD τ).loc main_arg1)) := by
  have e0 : (V m c main_v0 : Vec Ideal S15360x1024 .bf16)
      = shapeCast S15360x1024 (m ((c : Thread nD τ).loc main_arg0)) shapeCasts_S12x1280x1024_S15360x1024 := by entry_read; rfl
  have e1 : (V m c main_v1 : Vec Ideal S15360x2816 .bf16)
      = shapeCast S15360x2816 (m ((c : Thread nD τ).loc main_arg1)) shapeCasts_S12x1280x2816_S15360x2816 := by entry_read; rfl
  rw [e0, e1]
  exact total_flat _ _

end Cert.Proof.Ker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Tokens
public import Idealize.ShloMosaic.Adequacy
public import Idealize.ShloMosaic.Init

@[expose] public section

noncomputable section

namespace Cert.Proof

open Idealize.ShloMosaic Idealize.ShloMosaic.TcCoe Idealize.SL.Sem

section Rows

variable (m : (ℓ : Loc Cert.KernelIdeal.nD Cert.KernelIdeal.τ Cert.KernelIdeal.sig) → Buf (Elt Ideal) ℓ)

/-- The updated momentum rows, over the kernel's arguments. -/
def momentum (c : Dev Cert.KernelIdeal.nD) :=
  Sc.mRow (Ref.total (m (c.tc.loc Cert.KernelIdeal.main_arg0)) (m (c.tc.loc Cert.KernelIdeal.main_arg1)))
    (m (c.tc.loc Cert.KernelIdeal.main_arg4)) (m (c.tc.loc Cert.KernelIdeal.main_arg5))

/-- The updated weight rows, over the kernel's arguments. -/
def weight (c : Dev Cert.KernelIdeal.nD) :=
  Sc.wRow (Ref.total (m (c.tc.loc Cert.KernelIdeal.main_arg0)) (m (c.tc.loc Cert.KernelIdeal.main_arg1)))
    (m (c.tc.loc Cert.KernelIdeal.main_arg2)) (m (c.tc.loc Cert.KernelIdeal.main_arg3))
    (m (c.tc.loc Cert.KernelIdeal.main_arg4)) (m (c.tc.loc Cert.KernelIdeal.main_arg5))

theorem kernel_momentum (c : Dev Cert.KernelIdeal.nD) : Ker.mRows m c = momentum m c := by
  unfold Ker.mRows momentum
  rw [Ker.total_eq, Cert.KernelIdeal.Gen.V_main_arg4 m c, Cert.KernelIdeal.Gen.V_main_arg5 m c]

theorem kernel_weight (c : Dev Cert.KernelIdeal.nD) : Ker.wRows m c = weight m c := by
  unfold Ker.wRows weight
  rw [Ker.total_eq, Cert.KernelIdeal.Gen.V_main_arg2 m c, Cert.KernelIdeal.Gen.V_main_arg3 m c,
    Cert.KernelIdeal.Gen.V_main_arg4 m c, Cert.KernelIdeal.Gen.V_main_arg5 m c]

end Rows

/-- The kernel and the reference, over the extended reals, return equal results from equal arguments. -/
theorem algebraic : Cert.algebraic_KernelIdeal_ReferenceIdeal
    (hKernelIdeal := Cert.KernelIdeal.Gen.facts) (hReferenceIdeal := Cert.ReferenceIdeal.Gen.facts) := by
  intro m g m' g' _ hargs
  have hm : ∀ c : Dev Cert.KernelIdeal.nD, Ref.mRows m' c = momentum m c := fun c => by
    obtain ⟨h0, h1, h2, h3, h4, h5, h6, h7⟩ := hargs c
    unfold Ref.mRows momentum
    rw [h0, h1, h4, h5]
  have hw : ∀ c : Dev Cert.KernelIdeal.nD, Ref.wRows m' c = weight m c := fun c => by
    obtain ⟨h0, h1, h2, h3, h4, h5, h6, h7⟩ := hargs c
    unfold Ref.wRows weight
    rw [h0, h1, h2, h3, h4, h5]
  refine ⟨fun c => Sc.codes (m (c.tc.loc Cert.KernelIdeal.main_arg6)) (weight m c), fun c => Sc.scales (weight m c),
    fun c => Sc.codes (m (c.tc.loc Cert.KernelIdeal.main_arg7)) (momentum m c), fun c => Sc.scales (momentum m c), ?_, ?_⟩
  · refine (θ_run (Cert.KernelIdeal.defs (F := Ideal)) _ _).mono (fun r h c => ?_) (Cert.KernelIdeal.Value.run_blocks m g)
    obtain ⟨h8, h9, h10, h11, hkeep⟩ := h c
    refine ⟨h8.trans ?_, h9.trans ?_, h10.trans ?_, h11.trans ?_, hkeep⟩
    · rw [Ker.final_8, kernel_weight, Cert.KernelIdeal.Gen.V_main_arg6 m c]
    · rw [Ker.final_9, kernel_weight]
    · rw [Ker.final_10, kernel_momentum, Cert.KernelIdeal.Gen.V_main_arg7 m c]
    · rw [Ker.final_11, kernel_momentum]
  · refine (θ_run (Cert.ReferenceIdeal.defs (F := Ideal)) _ _).mono (fun r h c => ?_) (Ref.run m' g')
    obtain ⟨h0, h1, h2, h3, hkeep⟩ := h c
    obtain ⟨_, _, _, _, _, _, h6, h7⟩ := hargs c
    refine ⟨h0.trans ?_, h1.trans ?_, h2.trans ?_, h3.trans ?_, hkeep⟩
    · exact (Ref.result_7 m' c).trans (congrArg₂ Sc.codes h6 (hw c))
    · exact (Ref.result_8 m' c).trans (congrArg Sc.scales (hw c))
    · exact (Ref.result_9 m' c).trans (congrArg₂ Sc.codes h7 (hm c))
    · exact (Ref.result_10 m' c).trans (congrArg Sc.scales (hm c))

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    IdealRules.sign_bit.maskStatement Cert.KernelIdeal.S256x128 .f32, algebraic⟩

end Cert.Proof

end
